-- ==== Defs.lean ====
def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v5_0)) (v1 : (c : Dev Cert.OProjIdeal.nD) → Buf (Elt Ideal) ((c.tc : Thread Cert.OProjIdeal.nD Cert.OProjIdeal.τ).loc Cert.OProjIdeal.main_v5_1)) (v2 : (c : Dev Cert.OProjIdeal.nD) → Buf (Elt Ideal) ((c.tc : Thread Cert.OProjIdeal.nD Cert.OProjIdeal.τ).loc Cert.OProjIdeal.main_v5_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v5_0) = v0 c
          ∧ r.2.mem ((c.tc : Thread Cert.OProjIdeal.nD Cert.OProjIdeal.τ).loc Cert.OProjIdeal.main_v5_1) = v1 c
          ∧ r.2.mem ((c.tc : Thread Cert.OProjIdeal.nD Cert.OProjIdeal.τ).loc Cert.OProjIdeal.main_v5_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0_0) = v0 c
          ∧ r.2.mem ((c.tc : Thread Cert.OProjRefIdeal.nD Cert.OProjRefIdeal.τ).loc Cert.OProjRefIdeal.main_v0_1) = v1 c
          ∧ r.2.mem ((c.tc : Thread Cert.OProjRefIdeal.nD Cert.OProjRefIdeal.τ).loc Cert.OProjRefIdeal.main_v0_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hOProj : Cert.OProj.Facts) (hOProjIdeal : Cert.OProjIdeal.Facts) (hOProjRefIdeal : Cert.OProjRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_OProj (hOProj := hOProj)
    ∧ quiescent_OProjIdeal (hOProjIdeal := hOProjIdeal)
    ∧ quiescent_OProjRefIdeal (hOProjRefIdeal := hOProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_OProj_OProjIdeal
    ∧ algebraic_OProjIdeal_OProjRefIdeal (hOProjIdeal := hOProjIdeal) (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== OProj.lean ====
abbrev S640x2048 : Shape := ⟨2, ![640, 2048]⟩
abbrev S20x32 : Shape := ⟨2, ![20, 32]⟩
abbrev S16x128x4096 : Shape := ⟨3, ![16, 128, 4096]⟩
abbrev S4096 : Shape := ⟨1, ![4096]⟩
abbrev S640x4096 : Shape := ⟨2, ![640, 4096]⟩
abbrev S640x1 : Shape := ⟨2, ![640, 1]⟩
abbrev S640x128 : Shape := ⟨2, ![640, 128]⟩
abbrev S2048x4096 : Shape := ⟨2, ![2048, 4096]⟩
abbrev S1x4096 : Shape := ⟨2, ![1, 4096]⟩
abbrev S2048x512 : Shape := ⟨2, ![2048, 512]⟩
abbrev S1x512 : Shape := ⟨2, ![1, 512]⟩
abbrev S640x512 : Shape := ⟨2, ![640, 512]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩
abbrev S1x32 : Shape := ⟨2, ![1, 32]⟩

abbrev nBuf : Space → Nat
  | .hbm => 15
  | .vmem => 14
  | .smem => 0
  | _ => 0

abbrev bufTy : (tb : Table) → Fin (tcTables nBuf tb) → BufTy
  | .hbm, ⟨0, _⟩ => ⟨S640x2048, .i8⟩
  | .hbm, ⟨1, _⟩ => ⟨S20x32, .f32⟩
  | .hbm, ⟨2, _⟩ => ⟨S16x128x4096, .i8⟩
  | .hbm, ⟨3, _⟩ => ⟨S4096, .f32⟩
  | .hbm, ⟨4, _⟩ => ⟨S640x4096, .bf16⟩
  | .hbm, ⟨5, _⟩ => ⟨S4096, .f32⟩
  | .hbm, ⟨6, _⟩ => ⟨S640x1, .f32⟩
  | .hbm, ⟨7, _⟩ => ⟨S640x128, .f32⟩
  | .hbm, ⟨8, _⟩ => ⟨S2048x4096, .i8⟩
  | .hbm, ⟨9, _⟩ => ⟨S1x4096, .f32⟩
  | .hbm, ⟨10, _⟩ => ⟨S1x4096, .f32⟩
  | .hbm, ⟨11, _⟩ => ⟨S640x4096, .f32⟩
  | .hbm, ⟨12, _⟩ => ⟨S640x4096, .i8⟩
  | .hbm, ⟨13, _⟩ => ⟨S20x32, .f32⟩
  | .hbm, ⟨14, _⟩ => ⟨S640x128, .f32⟩
  | .local _ .vmem, ⟨0, _⟩ => ⟨S640x2048, .i8⟩
  | .local _ .vmem, ⟨1, _⟩ => ⟨S640x128, .f32⟩
  | .local _ .vmem, ⟨2, _⟩ => ⟨S2048x512, .i8⟩
  | .local _ .vmem, ⟨3, _⟩ => ⟨S2048x512, .i8⟩
  | .local _ .vmem, ⟨4, _⟩ => ⟨S1x512, .f32⟩
  | .local _ .vmem, ⟨5, _⟩ => ⟨S1x512, .f32⟩
  | .local _ .vmem, ⟨6, _⟩ => ⟨S640x512, .bf16⟩
  | .local _ .vmem, ⟨7, _⟩ => ⟨S640x512, .bf16⟩
  | .local _ .vmem, ⟨8, _⟩ => ⟨S1x4096, .f32⟩
  | .local _ .vmem, ⟨9, _⟩ => ⟨S640x4096, .f32⟩
  | .local _ .vmem, ⟨10, _⟩ => ⟨S640x4096, .i8⟩
  | .local _ .vmem, ⟨11, _⟩ => ⟨S20x32, .f32⟩
  | .local _ .vmem, ⟨12, _⟩ => ⟨S640x128, .f32⟩
  | .local _ .vmem, ⟨13, _⟩ => ⟨S640x2048, .bf16⟩
  | _, _ => ⟨S640x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v19 : BitVec 32 := Scalar.muli arg0 c512_i32
  v19
def k0_off1 (i : grid0.Coords) : Fin 2 → Nat :=
  let c0_10 : Index := 0#32
  let arg0 : BitVec 32 := BitVec.ofNat 32 (i 0).val
  let c512_i32 : BitVec 32 := 512#32
  let v19 : BitVec 32 := Scalar.muli arg0 c512_i32
  let v20 : BitVec 32 := v19
  let v21 : Index := Scalar.indexCast v20
  ![0, v21.toNat]
def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_11 : BitVec 32 := 0#32
  let v25 : BitVec 1 := Scalar.cmpi .ne v24 c0_i32_11
  v25

@[reducible] def k0_t1_loop : Scf.Loop 32 :=
  let c0_i32_12 : BitVec 32 := 0#32
  let c20_i32 : BitVec 32 := 20#32
  let v26 : BitVec 32 := Scalar.addi c0_i32_12 c20_i32
  let c1_i32 : BitVec 32 := 1#32
  ⟨c0_i32_12, v26, c1_i32⟩
def k0_mult2 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c32_i32 : BitVec 32 := 32#32
  let v27 : BitVec 32 := Scalar.muli arg12 c32_i32
  v27
def k0_off2 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c32_i32 : BitVec 32 := 32#32
  let v27 : BitVec 32 := Scalar.muli arg12 c32_i32
  let v28 : BitVec 32 := v27
  let v29 : Index := Scalar.indexCast v28
  let c0_14 : Index := 0#32
  ![v29.toNat, 0]
def k0_off3 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c32_i32 : BitVec 32 := 32#32
  let v27 : BitVec 32 := Scalar.muli arg12 c32_i32
  let v28 : BitVec 32 := v27
  let v71 : Index := Scalar.indexCast v28
  let c0_29 : Index := 0#32
  ![v71.toNat, 0]
def k0_off4 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let v81 : Index := Scalar.indexCast arg12
  let c0_32 : Index := 0#32
  ![v81.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S640x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OProjRefIdeal.lean ====
abbrev S640x2048 : Shape := ⟨2, ![640, 2048]⟩
abbrev S20x32 : Shape := ⟨2, ![20, 32]⟩
abbrev S16x128x4096 : Shape := ⟨3, ![16, 128, 4096]⟩
abbrev S4096 : Shape := ⟨1, ![4096]⟩
abbrev S640x4096 : Shape := ⟨2, ![640, 4096]⟩
abbrev S640 : Shape := ⟨1, ![640]⟩
abbrev S2048x4096 : Shape := ⟨2, ![2048, 4096]⟩
abbrev S640x1 : Shape := ⟨2, ![640, 1]⟩
abbrev S1x4096 : Shape := ⟨2, ![1, 4096]⟩

abbrev nBuf : Space → Nat
  | .hbm => 9
  | .vmem => 9
  | .smem => 0
  | _ => 0

abbrev bufTy : (tb : Table) → Fin (tcTables nBuf tb) → BufTy
  | .hbm, ⟨0, _⟩ => ⟨S640x2048, .i8⟩
  | .hbm, ⟨1, _⟩ => ⟨S20x32, .f32⟩
  | .hbm, ⟨2, _⟩ => ⟨S16x128x4096, .i8⟩
  | .hbm, ⟨3, _⟩ => ⟨S4096, .f32⟩
  | .hbm, ⟨4, _⟩ => ⟨S640x4096, .bf16⟩
  | .hbm, ⟨5, _⟩ => ⟨S4096, .f32⟩
  | .hbm, ⟨6, _⟩ => ⟨S640x4096, .f32⟩
  | .hbm, ⟨7, _⟩ => ⟨S640x4096, .i8⟩
  | .hbm, ⟨8, _⟩ => ⟨S20x32, .f32⟩
  | .local _ .vmem, ⟨0, _⟩ => ⟨S640x2048, .i8⟩
  | .local _ .vmem, ⟨1, _⟩ => ⟨S20x32, .f32⟩
  | .local _ .vmem, ⟨2, _⟩ => ⟨S16x128x4096, .i8⟩
  | .local _ .vmem, ⟨3, _⟩ => ⟨S4096, .f32⟩
  | .local _ .vmem, ⟨4, _⟩ => ⟨S640x4096, .bf16⟩
  | .local _ .vmem, ⟨5, _⟩ => ⟨S4096, .f32⟩
  | .local _ .vmem, ⟨6, _⟩ => ⟨S640x4096, .f32⟩
  | .local _ .vmem, ⟨7, _⟩ => ⟨S640x4096, .i8⟩
  | .local _ .vmem, ⟨8, _⟩ => ⟨S20x32, .f32⟩
  | _, _ => ⟨S640x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S640x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateUp.lean ====
abbrev S640x4096 : Shape := ⟨2, ![640, 4096]⟩
abbrev S20x32 : Shape := ⟨2, ![20, 32]⟩
abbrev S4096x2x6144 : Shape := ⟨3, ![4096, 2, 6144]⟩
abbrev S2x6144 : Shape := ⟨2, ![2, 6144]⟩
abbrev S640x1 : Shape := ⟨2, ![640, 1]⟩
abbrev S640x128 : Shape := ⟨2, ![640, 128]⟩
abbrev S2x4096x6144 : Shape := ⟨3, ![2, 4096, 6144]⟩
abbrev S640x6144 : Shape := ⟨2, ![640, 6144]⟩
abbrev S2x4096x512 : Shape := ⟨3, ![2, 4096, 512]⟩
abbrev S2x512 : Shape := ⟨2, ![2, 512]⟩
abbrev S1x4096x512 : Shape := ⟨3, ![1, 4096, 512]⟩
abbrev S4096x512 : Shape := ⟨2, ![4096, 512]⟩
abbrev S640x512 : Shape := ⟨2, ![640, 512]⟩
abbrev S1x512 : Shape := ⟨2, ![1, 512]⟩
abbrev S32x6144 : Shape := ⟨2, ![32, 6144]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩
abbrev S1x32 : Shape := ⟨2, ![1, 32]⟩

abbrev nBuf : Space → Nat
  | .hbm => 10
  | .vmem => 11
  | .smem => 0
  | _ => 0

abbrev bufTy : (tb : Table) → Fin (tcTables nBuf tb) → BufTy
  | .hbm, ⟨0, _⟩ => ⟨S640x4096, .i8⟩
  | .hbm, ⟨1, _⟩ => ⟨S20x32, .f32⟩
  | .hbm, ⟨2, _⟩ => ⟨S4096x2x6144, .i8⟩
  | .hbm, ⟨3, _⟩ => ⟨S2x6144, .f32⟩
  | .hbm, ⟨4, _⟩ => ⟨S640x1, .f32⟩
  | .hbm, ⟨5, _⟩ => ⟨S640x128, .f32⟩
  | .hbm, ⟨6, _⟩ => ⟨S2x4096x6144, .i8⟩
  | .hbm, ⟨7, _⟩ => ⟨S640x6144, .i8⟩
  | .hbm, ⟨8, _⟩ => ⟨S20x32, .f32⟩
  | .hbm, ⟨9, _⟩ => ⟨S640x128, .f32⟩
  | .local _ .vmem, ⟨0, _⟩ => ⟨S640x4096, .i8⟩
  | .local _ .vmem, ⟨1, _⟩ => ⟨S640x128, .f32⟩
  | .local _ .vmem, ⟨2, _⟩ => ⟨S2x4096x512, .i8⟩
  | .local _ .vmem, ⟨3, _⟩ => ⟨S2x4096x512, .i8⟩
  | .local _ .vmem, ⟨4, _⟩ => ⟨S2x512, .f32⟩
  | .local _ .vmem, ⟨5, _⟩ => ⟨S2x512, .f32⟩
  | .local _ .vmem, ⟨6, _⟩ => ⟨S640x6144, .i8⟩
  | .local _ .vmem, ⟨7, _⟩ => ⟨S20x32, .f32⟩
  | .local _ .vmem, ⟨8, _⟩ => ⟨S640x128, .f32⟩
  | .local _ .vmem, ⟨9, _⟩ => ⟨S640x4096, .bf16⟩
  | .local _ .vmem, ⟨10, _⟩ => ⟨S640x6144, .f32⟩
  | _, _ => ⟨S640x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![12], ![false]⟩

def k0_mult1 (i : grid0.Coords) : BitVec 32 :=
  let arg0 : BitVec 32 := BitVec.ofNat 32 (i 0).val
  let c512_i32 : BitVec 32 := 512#32
  let v30 : BitVec 32 := Scalar.muli arg0 c512_i32
  v30
def k0_off1 (i : grid0.Coords) : Fin 2 → Nat :=
  let c0_18 : Index := 0#32
  let arg0 : BitVec 32 := BitVec.ofNat 32 (i 0).val
  let c512_i32 : BitVec 32 := 512#32
  let v30 : BitVec 32 := Scalar.muli arg0 c512_i32
  let v31 : BitVec 32 := v30
  let v32 : Index := Scalar.indexCast v31
  ![0, v32.toNat]
def k0_cond2 (i : grid0.Coords) : BitVec 1 :=
  let arg0 : BitVec 32 := BitVec.ofNat 32 (i 0).val
  let c11_i32 : BitVec 32 := 11#32
  let v36 : BitVec 1 := Scalar.cmpi .eq arg0 c11_i32
  let v37 : BitVec 32 := Scalar.extui v36
  let c0_i32_19 : BitVec 32 := 0#32
  let v38 : BitVec 1 := Scalar.cmpi .ne v37 c0_i32_19
  v38

@[reducible] def k0_t1_loop : Scf.Loop 32 :=
  let c0_i32_20 : BitVec 32 := 0#32
  let c20_i32 : BitVec 32 := 20#32
  let v39 : BitVec 32 := Scalar.addi c0_i32_20 c20_i32
  let c1_i32 : BitVec 32 := 1#32
  ⟨c0_i32_20, v39, c1_i32⟩
def k0_mult2 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c32_i32 : BitVec 32 := 32#32
  let v40 : BitVec 32 := Scalar.muli arg10 c32_i32
  v40
def k0_off2 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c32_i32 : BitVec 32 := 32#32
  let v40 : BitVec 32 := Scalar.muli arg10 c32_i32
  let v41 : BitVec 32 := v40
  let v42 : Index := Scalar.indexCast v41
  let c0_22 : Index := 0#32
  ![v42.toNat, 0]
def k0_off3 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c32_i32 : BitVec 32 := 32#32
  let v40 : BitVec 32 := Scalar.muli arg10 c32_i32
  let v41 : BitVec 32 := v40
  let v67 : Index := Scalar.indexCast v41
  let c0_31 : Index := 0#32
  ![v67.toNat, 0]
def k0_off4 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let v77 : Index := Scalar.indexCast arg10
  let c0_34 : Index := 0#32
  ![v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S640x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateUpRefIdeal.lean ====
abbrev S640x4096 : Shape := ⟨2, ![640, 4096]⟩
abbrev S20x32 : Shape := ⟨2, ![20, 32]⟩
abbrev S4096x2x6144 : Shape := ⟨3, ![4096, 2, 6144]⟩
abbrev S2x6144 : Shape := ⟨2, ![2, 6144]⟩
abbrev S640x6144 : Shape := ⟨2, ![640, 6144]⟩
abbrev S640 : Shape := ⟨1, ![640]⟩
abbrev S4096x1x6144 : Shape := ⟨3, ![4096, 1, 6144]⟩
abbrev S4096x6144 : Shape := ⟨2, ![4096, 6144]⟩
abbrev S1x6144 : Shape := ⟨2, ![1, 6144]⟩
abbrev S6144 : Shape := ⟨1, ![6144]⟩
abbrev S640x1 : Shape := ⟨2, ![640, 1]⟩

abbrev nBuf : Space → Nat
  | .hbm => 6
  | .vmem => 6
  | .smem => 0
  | _ => 0

abbrev bufTy : (tb : Table) → Fin (tcTables nBuf tb) → BufTy
  | .hbm, ⟨0, _⟩ => ⟨S640x4096, .i8⟩
  | .hbm, ⟨1, _⟩ => ⟨S20x32, .f32⟩
  | .hbm, ⟨2, _⟩ => ⟨S4096x2x6144, .i8⟩
  | .hbm, ⟨3, _⟩ => ⟨S2x6144, .f32⟩
  | .hbm, ⟨4, _⟩ => ⟨S640x6144, .i8⟩
  | .hbm, ⟨5, _⟩ => ⟨S20x32, .f32⟩
  | .local _ .vmem, ⟨0, _⟩ => ⟨S640x4096, .i8⟩
  | .local _ .vmem, ⟨1, _⟩ => ⟨S20x32, .f32⟩
  | .local _ .vmem, ⟨2, _⟩ => ⟨S4096x2x6144, .i8⟩
  | .local _ .vmem, ⟨3, _⟩ => ⟨S2x6144, .f32⟩
  | .local _ .vmem, ⟨4, _⟩ => ⟨S640x6144, .i8⟩
  | .local _ .vmem, ⟨5, _⟩ => ⟨S20x32, .f32⟩
  | _, _ => ⟨S640x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S640x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S640x6144 : Shape := ⟨2, ![640, 6144]⟩
abbrev S20x32 : Shape := ⟨2, ![20, 32]⟩
abbrev S6144x4096 : Shape := ⟨2, ![6144, 4096]⟩
abbrev S4096 : Shape := ⟨1, ![4096]⟩
abbrev S640x4096 : Shape := ⟨2, ![640, 4096]⟩
abbrev S640x1 : Shape := ⟨2, ![640, 1]⟩
abbrev S640x128 : Shape := ⟨2, ![640, 128]⟩
abbrev S1x4096 : Shape := ⟨2, ![1, 4096]⟩
abbrev S6144x512 : Shape := ⟨2, ![6144, 512]⟩
abbrev S1x512 : Shape := ⟨2, ![1, 512]⟩
abbrev S640x512 : Shape := ⟨2, ![640, 512]⟩

abbrev nBuf : Space → Nat
  | .hbm => 9
  | .vmem => 11
  | .smem => 0
  | _ => 0

abbrev bufTy : (tb : Table) → Fin (tcTables nBuf tb) → BufTy
  | .hbm, ⟨0, _⟩ => ⟨S640x6144, .i8⟩
  | .hbm, ⟨1, _⟩ => ⟨S20x32, .f32⟩
  | .hbm, ⟨2, _⟩ => ⟨S6144x4096, .i8⟩
  | .hbm, ⟨3, _⟩ => ⟨S4096, .f32⟩
  | .hbm, ⟨4, _⟩ => ⟨S640x4096, .f32⟩
  | .hbm, ⟨5, _⟩ => ⟨S640x1, .f32⟩
  | .hbm, ⟨6, _⟩ => ⟨S640x128, .f32⟩
  | .hbm, ⟨7, _⟩ => ⟨S1x4096, .f32⟩
  | .hbm, ⟨8, _⟩ => ⟨S640x4096, .bf16⟩
  | .local _ .vmem, ⟨0, _⟩ => ⟨S640x6144, .i8⟩
  | .local _ .vmem, ⟨1, _⟩ => ⟨S640x128, .f32⟩
  | .local _ .vmem, ⟨2, _⟩ => ⟨S6144x512, .i8⟩
  | .local _ .vmem, ⟨3, _⟩ => ⟨S6144x512, .i8⟩
  | .local _ .vmem, ⟨4, _⟩ => ⟨S1x512, .f32⟩
  | .local _ .vmem, ⟨5, _⟩ => ⟨S1x512, .f32⟩
  | .local _ .vmem, ⟨6, _⟩ => ⟨S640x512, .f32⟩
  | .local _ .vmem, ⟨7, _⟩ => ⟨S640x512, .f32⟩
  | .local _ .vmem, ⟨8, _⟩ => ⟨S640x512, .bf16⟩
  | .local _ .vmem, ⟨9, _⟩ => ⟨S640x512, .bf16⟩
  | .local _ .vmem, ⟨10, _⟩ => ⟨S640x6144, .bf16⟩
  | _, _ => ⟨S640x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S640x6144 : Shape := ⟨2, ![640, 6144]⟩
abbrev S20x32 : Shape := ⟨2, ![20, 32]⟩
abbrev S6144x4096 : Shape := ⟨2, ![6144, 4096]⟩
abbrev S4096 : Shape := ⟨1, ![4096]⟩
abbrev S640x4096 : Shape := ⟨2, ![640, 4096]⟩
abbrev S640 : Shape := ⟨1, ![640]⟩
abbrev S640x1 : Shape := ⟨2, ![640, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S640x6144, .i8⟩
  | .hbm, ⟨1, _⟩ => ⟨S20x32, .f32⟩
  | .hbm, ⟨2, _⟩ => ⟨S6144x4096, .i8⟩
  | .hbm, ⟨3, _⟩ => ⟨S4096, .f32⟩
  | .hbm, ⟨4, _⟩ => ⟨S640x4096, .f32⟩
  | .hbm, ⟨5, _⟩ => ⟨S640x4096, .bf16⟩
  | .local _ .vmem, ⟨0, _⟩ => ⟨S640x6144, .i8⟩
  | .local _ .vmem, ⟨1, _⟩ => ⟨S20x32, .f32⟩
  | .local _ .vmem, ⟨2, _⟩ => ⟨S6144x4096, .i8⟩
  | .local _ .vmem, ⟨3, _⟩ => ⟨S4096, .f32⟩
  | .local _ .vmem, ⟨4, _⟩ => ⟨S640x4096, .f32⟩
  | .local _ .vmem, ⟨5, _⟩ => ⟨S640x4096, .bf16⟩
  | _, _ => ⟨S640x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S640x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DownValue.lean ====
/-
  The down projection: what its kernel leaves in the result array, and that this is the reference's value.
-/
module

public import proofs.«01_k».proof.Defs
public import proofs.«01_k».proof.Proof.Gen.DownIdeal.Value
public import proofs.«01_k».proof.Proof.Gen.DownRefIdeal.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownIdeal.Closed

open Cert.DownIdeal Cert.DownIdeal.Gen Cert.DownIdeal.Value

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The first column of a 640×128 block, as the kernel loads it. -/
abbrev col0 (x : Vec F S640x128 .f32) : Vec F S640x1 .f32 :=
  View.ld x (Rect.unit (s := S640x128) ![0, 0] S640x1.size inb_S640x128_S640x1_0_0)

/-- The first point keeps the converted codes in the scratch. -/
theorem sout_A (c : Dev nD) (t : Fin cfg0.N) (h0 : t.val % 8 = 0) :
    (outsAt0 m c t.val t.isLt).2 = k0_pay1 (iblk m c 0 t) := by
  rw [outsAt0_A m c t h0]
  dsimp only
  unfold sout0_A_0
  rw [View.read_writes_eq_canon _ _ _ (scover0_A_0 c _ _ _ _ _ _ _ _ _ _ _ _ _ _ _ _ _ _ _ _ _)]
  unfold kernelRun0_A
  dsimp only
  sl_unfold_words
  rw [View.canon_unit_zero hz]
  simp only [View.readAt_eq_ld, (hs0_0 t).read_unread, View.ld_unit_zero (S := S640x6144) hz]

/-- The first point's block of the result. -/
theorem out_A (c : Dev nD) (t : Fin cfg0.N) (h0 : t.val % 8 = 0) :
    (outsAt0 m c t.val t.isLt).1 = k0_pay2 (k0_pay1 (iblk m c 0 t)) (iblk m c 2 t) (iblk m c 4 t) (col0 (iblk m c 1 t)) (iblk m c 3 t) := by
  rw [outsAt0_A m c t h0]
  dsimp only
  unfold out0_A_5
  rw [View.read_writes_eq_canon _ _ _ (cover0_A_5 c _ _ _ _ _ _ _ _ _ _ _ _ _ _ _ _ _ _ _ _ _)]
  unfold kernelRun0_A
  dsimp only
  sl_unfold_words
  rw [View.canon_unit_zero hz]
  simp only [View.readCov_unit_zero (S := S640x6144) _ hz, View.readAt_eq_ld, (hs0_0 t).read_unread, (hs0_1 t).read_unread, (hs0_2 t).read_unread, (hs0_3 t).read_unread, (hs0_4 t).read_unread, View.ld_unit_zero (S := S640x6144) hz,
    View.ld_unit_zero (S := S6144x512) hz, View.ld_unit_zero (S := S640x512) hz, View.ld_unit_zero (S := S1x512) hz]

/-- A later point's block of the result, over the scratch `xs` it finds. -/
theorem out_B (c : Dev nD) (t : Fin cfg0.N) (h0 : ¬t.val % 8 = 0) :
    (outsAt0 m c t.val t.isLt).1 = k0_pay2 ((outsAt0 m c (t.val - 1) (Nat.lt_of_le_of_lt (Nat.sub_le _ _) t.isLt)).2) (iblk m c 2 t) (iblk m c 4 t) (col0 (iblk m c 1 t)) (iblk m c 3 t) := by
  rw [outsAt0_B m c t h0]
  dsimp only
  unfold out0_B_5
  rw [View.read_writes_eq_canon _ _ _ (cover0_B_5 c _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole _).read_unread, View.ld_unit_zero (S := S640x6144) hz,
    View.ld_unit_zero (S := S6144x512) hz, View.ld_unit_zero (S := S640x512) hz, View.ld_unit_zero (S := S1x512) hz]

theorem sout_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The whole codes array is the block every point finds. -/
theorem iblk0_eq (c : Dev nD) (t : Fin cfg0.N) : iblk m c 0 t = m ((c : Thread nD τ).loc main_arg0) := by
  have e : ∀ t : Fin cfg0.N, win0_0.index t (0 : Fin 2) = 0 ∧ win0_0.index t (1 : Fin 2) = 0 :=
    (by decide +kernel : ∀ t : Fin grid0.N, _)
  rw [← V_main_arg0 m c]
  funext j
  show V m c main_arg0 (((cfg0.win 0).blk t).view.emb j) = V m c main_arg0 j
  congr 1
  funext a; apply Fin.ext
  match a with
  | ⟨0, _⟩ => show win0_0.index t (0 : Fin 2) * 640 + 1 * (j 0).val = (j 0).val; rw [(e t).1]; omega
  | ⟨1, _⟩ => show win0_0.index t (1 : Fin 2) * 6144 + 1 * (j 1).val = (j 1).val; rw [(e t).2]; omega

/-- After every point the scratch holds the converted codes. -/
theorem scratch_eq (c : Dev nD) : ∀ (n : ℕ) (h : n < cfg0.N), (outsAt0 m c n h).2 = k0_pay1 (m ((c : Thread nD τ).loc main_arg0))
  | 0, h => by rw [sout_A m c ⟨0, h⟩ rfl, iblk0_eq]
  | n + 1, h => by
    have hN : cfg0.N = 8 := N_0
    have hB : ¬(⟨n + 1, h⟩ : Fin cfg0.N).val % 8 = 0 := by dsimp only; omega
    rw [sout_B m c ⟨n + 1, h⟩ hB]
    exact scratch_eq c n _

/-- The block of the result that point `t` leaves. -/
theorem out_eq (c : Dev nD) (t : Fin cfg0.N) :
    (outsAt0 m c t.val t.isLt).1 = k0_pay2 (k0_pay1 (m ((c : Thread nD τ).loc main_arg0))) (iblk m c 2 t) (iblk m c 4 t) (col0 (iblk m c 1 t)) (iblk m c 3 t) := by
  by_cases h0 : t.val % 8 = 0
  · rw [out_A m c t h0, iblk0_eq]
  · rw [out_B m c t h0, scratch_eq]

/-- The scale rows as the region finds them: each row of the first argument's scales, repeated along the row. -/
theorem V_rows (c : Dev nD) : V m c main_v1 = broadcastInDim S640x128 ![0, 1] bcast_S640x1_S640x128_0_1 (shapeCast S640x1 (m ((c : Thread nD τ).loc main_arg1)) shapeCasts_S20x32_S640x1) := by
  unfold_abbrev_sides
  after_results
  rfl

/-- The column scales as the region finds them: the argument as one row. -/
theorem V_cols (c : Dev nD) : V m c main_v2 = shapeCast S1x4096 (m ((c : Thread nD τ).loc main_arg3)) shapeCasts_S4096_S1x4096 := by
  unfold_abbrev_sides
  after_results
  rfl

/-! ## The result array at the extended reals -/

section AtIdeal

variable (mi : (ℓ : Loc nD τ sig) → Buf (Elt Ideal) ℓ)

/-- The index maps, decided over the grid: the weight's, the column scales' and the residual's block of point `t` is its `t`-th
    block of columns, the row scales' block is the whole array. -/
theorem idx_facts : ∀ t : Fin cfg0.N, win0_1.index t (0 : Fin 2) = 0 ∧ win0_1.index t (1 : Fin 2) = 0
    ∧ win0_2.index t (0 : Fin 2) = 0 ∧ win0_2.index t (1 : Fin 2) = t.val ∧ win0_3.index t (0 : Fin 2) = 0
    ∧ win0_3.index t (1 : Fin 2) = t.val ∧ win0_4.index t (0 : Fin 2) = 0 ∧ win0_4.index t (1 : Fin 2) = t.val :=
  (by decide +kernel : ∀ t : Fin grid0.N, _)

/-- The weight's block at point `t`: its columns from `512·t`. -/
theorem iblk2_apply (c : Dev nD) (t : Fin cfg0.N) (k : Fin 6144) (j : Fin 512) (J : Fin 4096) (hJ : J.val = 512 * t.val + j.val) :
    iblk m c 2 t (ix2 k j) = m ((c : Thread nD τ).loc main_arg2) (ix2 k J) := by
  obtain ⟨e1, e1', e2, e2', e3, e3', e4, e4'⟩ := idx_facts t
  rw [← V_main_arg2 m c]
  show V m c main_arg2 (((cfg0.win 2).blk t).view.emb _) = V m c main_arg2 _
  congr 1
  funext a; apply Fin.ext
  match a with
  | ⟨0, _⟩ => show win0_2.index t (0 : Fin 2) * 6144 + 1 * k.val = k.val; omega
  | ⟨1, _⟩ => show win0_2.index t (1 : Fin 2) * 512 + 1 * j.val = J.val; omega

/-- The residual's block at point `t`: its columns from `512·t`. -/
theorem iblk4_apply (c : Dev nD) (t : Fin cfg0.N) (r : Fin 640) (j : Fin 512) (J : Fin 4096) (hJ : J.val = 512 * t.val + j.val) :
    iblk m c 4 t (ix2 r j) = m ((c : Thread nD τ).loc main_arg4) (ix2 r J) := by
  obtain ⟨e1, e1', e2, e2', e3, e3', e4, e4'⟩ := idx_facts t
  rw [← V_main_arg4 m c]
  show V m c main_arg4 (((cfg0.win 4).blk t).view.emb _) = V m c main_arg4 _
  congr 1
  funext a; apply Fin.ext
  match a with
  | ⟨0, _⟩ => show win0_4.index t (0 : Fin 2) * 640 + 1 * r.val = r.val; omega
  | ⟨1, _⟩ => show win0_4.index t (1 : Fin 2) * 512 + 1 * j.val = J.val; omega

/-- The row scales' block is the whole array. -/
theorem iblk1_apply (c : Dev nD) (t : Fin cfg0.N) (r : Fin 640) (l : Fin 128) :
    iblk m c 1 t (ix2 r l) = V m c main_v1 (ix2 r l) := by
  obtain ⟨e1, e1', e2, e2', e3, e3', e4, e4'⟩ := idx_facts t
  show V m c main_v1 (((cfg0.win 1).blk t).view.emb _) = V m c main_v1 _
  congr 1
  funext a; apply Fin.ext
  match a with
  | ⟨0, _⟩ => show win0_1.index t (0 : Fin 2) * 640 + 1 * r.val = r.val; omega
  | ⟨1, _⟩ => show win0_1.index t (1 : Fin 2) * 128 + 1 * l.val = l.val; omega

/-- The column scales' block at point `t`: the entries from `512·t`. -/
theorem iblk3_apply (c : Dev nD) (t : Fin cfg0.N) (z : Fin 1) (j : Fin 512) (J : Fin 4096) (hJ : J.val = 512 * t.val + j.val) :
    iblk m c 3 t (ix2 z j) = V m c main_v2 (ix2 z J) := by
  obtain ⟨e1, e1', e2, e2', e3, e3', e4, e4'⟩ := idx_facts t
  show V m c main_v2 (((cfg0.win 3).blk t).view.emb _) = V m c main_v2 _
  congr 1
  funext a; apply Fin.ext
  match a with
  | ⟨0, _⟩ => show win0_3.index t (0 : Fin 2) * 1 + 1 * z.val = z.val; omega
  | ⟨1, _⟩ => show win0_3.index t (1 : Fin 2) * 512 + 1 * j.val = J.val; omega

/-- A 20×32 table of row scales, as one column repeated along the rows, read at row `r`. -/
theorem rows_apply (x : Vec F S20x32 .f32) (r : Fin 640) (l : Fin 128) :
    broadcastInDim S640x128 ![0, 1] bcast_S640x1_S640x128_0_1 (shapeCast S640x1 x shapeCasts_S20x32_S640x1) (ix2 r l)
      = x (ix2 (⟨r.val / 32, by omega⟩ : Fin 20) (⟨r.val % 32, by omega⟩ : Fin 32)) := by
  pointwise

/-- A vector as one row, read at a column. -/
theorem cols_apply (x : Vec F S4096 .f32) (z : Fin 1) (j : Fin 4096) :
    shapeCast S1x4096 x shapeCasts_S4096_S1x4096 (ix2 z j) = x (ix1 j) := by
  pointwise

/-- **The kernel's result is the reference's**: each block of columns of the product, rescaled and added to the residual, is
    that block of columns of the whole product, rescaled and added. -/
theorem result_eq (c : Dev nD) : G5 mi c = DownRefIdeal.Value.G5 (F := Ideal) (mi ((c : Thread nD τ).loc main_arg0))
    (mi ((c : Thread nD τ).loc main_arg1)) (mi ((c : Thread nD τ).loc main_arg2)) (mi ((c : Thread nD τ).loc main_arg3))
    (mi ((c : Thread nD τ).loc main_arg4)) := by
  funext i
  obtain ⟨r, J, rfl⟩ : ∃ (r : Fin 640) (J : Fin 4096), i = ix2 r J := ⟨i 0, i 1, eq_ix2 i⟩
  have hp : pt5Of (ix2 r J) = J.val / 512 := by
    show 8 * (r.val / 640 - 0) + 1 * (J.val / 512 - 0) = _
    have := r.isLt
    omega
  have hN : cfg0.N = 8 := N_0
  have hlt : J.val / 512 < cfg0.N := by have := J.isLt; omega
  unfold G5
  rw [dif_pos (by rw [hp]; exact hlt), fold0_congr mi c _ _ _ (by omega) hp, ← outsAt0_sweep mi c _ hlt]
  have hl : loc5Of (ix2 r J) = ix2 r (⟨J.val % 512, Nat.mod_lt _ (by decide)⟩ : Fin 512) := by
    funext a; apply Fin.ext
    match a with
    | ⟨0, _⟩ => show r.val % 640 = r.val; exact Nat.mod_eq_of_lt r.isLt
    | ⟨1, _⟩ => rfl
  have hJ : J.val = 512 * (J.val / 512) + J.val % 512 := (Nat.div_add_mod _ _).symm
  rw [hl]
  have ho := out_eq mi c ⟨J.val / 512, hlt⟩
  dsimp only at ho
  rw [ho]
  unfold DownRefIdeal.Value.G5 k0_pay2 k0_pay1 DownRefIdeal.Gen.k0_pay1 col0
  pointwise
  have hw : ∀ k : Fin 6144, iblk mi c 2 ⟨J.val / 512, hlt⟩ (ix2 k (⟨J.val % 512, Nat.mod_lt _ (by decide)⟩ : Fin 512)) = _ :=
    fun k => iblk2_apply mi c ⟨J.val / 512, hlt⟩ k _ J hJ
  have hx : iblk mi c 4 ⟨J.val / 512, hlt⟩ (ix2 r (⟨J.val % 512, Nat.mod_lt _ (by decide)⟩ : Fin 512)) = _ :=
    iblk4_apply mi c ⟨J.val / 512, hlt⟩ r _ J hJ
  have hs : iblk mi c 3 ⟨J.val / 512, hlt⟩ (ix2 0 (⟨J.val % 512, Nat.mod_lt _ (by decide)⟩ : Fin 512)) = _ :=
    iblk3_apply mi c ⟨J.val / 512, hlt⟩ 0 _ J hJ
  rw [hx, hs, iblk1_apply, V_rows, V_cols]
  refine congrArg₂ (· + ·) rfl (congrArg₂ (· * ·) (congrArg₂ (· * ·) (Finset.sum_congr rfl fun k _ => ?_) ?_) ?_)
  · rw [hw k]
  · exact rows_apply _ r 0
  · exact cols_apply _ 0 J

end AtIdeal

end Cert.DownIdeal.Closed

namespace Cert.Proof

/-- **The down projection's kernel and reference end with one result**, at the extended reals. -/
theorem algebraic_down : Cert.algebraic_DownIdeal_DownRefIdeal := by
  intro m ρ m' ρ' _ hagree
  refine ⟨fun c => Cert.DownIdeal.Value.G5 m c, Cert.DownIdeal.Value.run (F := Ideal) m ρ, ?_⟩
  refine (θ_run Cert.DownRefIdeal.defs _ _).mono (fun _ h c => ?_) (Cert.DownRefIdeal.Value.run (F := Ideal) m' ρ')
  obtain ⟨h0, h1, h2, h3, h4⟩ := hagree c
  refine ⟨(h c).1.trans ?_, (h c).2⟩
  show _ = Cert.DownIdeal.Value.G5 m c
  rw [Cert.DownIdeal.Closed.result_eq m c]
  exact congr (congr (congr (congr (congrArg _ h0) h1) h2) h3) h4

end Cert.Proof

end
-- ==== Proof.GateUpRun.lean ====
/-
  The gate/up projection's kernel body, run on any whole buffers: at the first point, at a middle point and at the
  last point of the grid, with what each buffer holds afterwards.
-/
module

public import proofs.«01_k».proof.Defs
public import proofs.«01_k».proof.Proof.Gen.GateUpIdeal.Frame
public import proofs.«01_k».proof.Proof.Gen.GateUpIdeal.Loops
public import proofs.«01_k».proof.Proof.DownValue
public import Idealize.ShloMosaic.Lib.WritesUnit
public import Idealize.ShloMosaic.Lib.VecWindow
public import Idealize.ShloMosaic.Lib.Pipeline.ValueKit.Tiles

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateUpIdeal Cert.GateUpIdeal.Gen

variable {F : FTy → Type} [FloatOps F]

local notation "𝕄" => MT nD τ sig Unit (Elt F) ℕ (UR sig nD τ) ℕ

/-- The first point's condition, on the grid coordinates. -/
abbrev first (i : grid0.Coords) : Prop := (Scalar.cmpi .ne (Scalar.extui (Scalar.cmpi .eq (BitVec.ofNat 32 (i 0).val) 0#32)) 0#32) = 1#1

theorem hz2 : (![0, 0] : Fin 2 → Nat) = fun _ => 0 := funext fun a => by fin_cases a <;> rfl

/-- The gated block of a point: from the codes (`x8`), the scales, the two weight planes and the two weight-scale rows. -/
def gated (x8 : Vec F S640x4096 .bf16) (x1 : Vec F S640x128 .f32) (x2 : Vec F S2x4096x512 .i8) (x3 : Vec F S2x512 .f32) : FVec F S640x512 .f32 :=
  k0_pay1 (k0_pay7 x8 (View.ld x2 (Rect.unit (s := S2x4096x512) ![0, 0, 0] S1x4096x512.size inb_S2x4096x512_S1x4096x512_0_0_0))
    (View.ld x1 (Rect.unit (s := S640x128) ![0, 0] S640x1.size inb_S640x128_S640x1_0_0))
    (View.ld x3 (Rect.unit (s := S2x512) ![0, 0] S1x512.size inb_S2x512_S1x512_0_0))
    x8 (View.ld x2 (Rect.unit (s := S2x4096x512) ![1, 0, 0] S1x4096x512.size inb_S2x4096x512_S1x4096x512_1_0_0))
    (View.ld x1 (Rect.unit (s := S640x128) ![0, 0] S640x1.size inb_S640x128_S640x1_0_0))
    (View.ld x3 (Rect.unit (s := S2x512) ![1, 0] S1x512.size inb_S2x512_S1x512_1_0)))

/-- Point `i`'s block of columns of `x9` replaced by `w`. -/
def put (x9 : Vec F S640x6144 .f32) (i : grid0.Coords) (w : FVec F S640x512 .f32) : Vec F S640x6144 .f32 := fun y =>
  if h : ∀ a, (![0, 512 * (i 0).val] : Fin 2 → ℕ) a ≤ (y a).val ∧ (y a).val < (![0, 512 * (i 0).val] : Fin 2 → ℕ) a + S640x512.size a then
    w (Rect.unitLocal (s := S640x6144) (off := ![0, 512 * (i 0).val]) (size := S640x512.size) y h)
  else x9 y

/-- A store of point `i`'s block of columns leaves `put`. -/
theorem read_put (arg9 : Memref sig .tc .vmem S640x6144 .f32) (harg9 : arg9.IsWhole) (x9 : Vec F S640x6144 .f32) (i : grid0.Coords) (w : FVec F S640x512 .f32) :
    arg9.view.read (Elt F) (arg9.view.writes (Elt F) (harg9.unread x9) [⟨Rect.unit (s := S640x6144) (k0_off1 i) S640x512.size (k0_off1_inb i), w⟩]) = put x9 i w := by
  funext y
  rw [View.read_writes_cons_unit (s := S640x6144) arg9.view (harg9.unread x9) (k0_off1_inb i) w [] y (k0_off1_eq i)]
  unfold put
  rw [View.writes_nil, harg9.read_unread]

/-- The rows of trip `k` of the loop. -/
def rowsOf (X : Vec F S640x6144 .f32) (k : Fin 20) : Vec F S32x6144 .f32 := fun x =>
  X (ix2 (⟨32 * k.val + (x 0).val, by have := k.isLt; have : (x 0).val < 32 := (x 0).isLt; omega⟩ : Fin 640) (x 1))

/-- What the loop leaves of the codes: each row read from its own trip. -/
def codesOf (X : Vec F S640x6144 .f32) : Vec F S640x6144 .i8 := fun y =>
  k0_pay3 (rowsOf X (⟨(y 0).val / 32, by have : (y 0).val < 640 := (y 0).isLt; omega⟩ : Fin 20)) (ix2 (⟨(y 0).val % 32, Nat.mod_lt _ (by decide)⟩ : Fin 32) (y 1))

/-- What the loop leaves of the scales repeated along the lanes. -/
def repOf (X : Vec F S640x6144 .f32) : Vec F S640x128 .f32 := fun y =>
  k0_pay4 (rowsOf X (⟨(y 0).val / 32, by have : (y 0).val < 640 := (y 0).isLt; omega⟩ : Fin 20)) (ix2 (⟨(y 0).val % 32, Nat.mod_lt _ (by decide)⟩ : Fin 32) (y 1))

/-- What the loop leaves of the scales, one row of 32 to a trip. -/
def scalesOf (X : Vec F S640x6144 .f32) : Vec F S20x32 .f32 := fun y =>
  k0_pay5 (rowsOf X (y 0)) (ix2 (0 : Fin 1) (y 1))

/-- A trip's number, below twenty. -/
def tr (k : Fin k0_t1_loop.trips) : Fin 20 := ⟨k.val, Nat.lt_of_lt_of_le k.isLt k0_t1_abs.2.1⟩

/-- The stores of one trip: one block of each output, computed from the trip's rows. -/
theorem trip_pieces (𝒱 : Variants) (c : Dev nD) (bd : Option 𝒱.V) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (h2 : k0_cond2 i = 1#1) (X9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 h2 X9 k
      = ([⟨Rect.unit (s := S640x6144) (k0_off2 k) S32x6144.size (k0_off2_inb i k h2), k0_pay3 (rowsOf (arg9.view.read (Elt F) X9) (tr k))⟩],
         [⟨Rect.unit (s := S20x32) (k0_off4 k) S1x32.size (k0_off4_inb i k h2), k0_pay5 (rowsOf (arg9.view.read (Elt F) X9) (tr k))⟩],
         [⟨Rect.unit (s := S640x128) (k0_off3 k) S32x128.size (k0_off3_inb i k h2), k0_pay4 (rowsOf (arg9.view.read (Elt F) X9) (tr k))⟩]) := by
  have e : View.readAt (Elt F) arg9.view (Rect.unit (s := S640x6144) (k0_off2 k) S32x6144.size (k0_off2_inb i k h2)).toLoadRect X9 = rowsOf (arg9.view.read (Elt F) X9) (tr k) := by
    rw [View.readAt_eq_ld]
    funext x
    exact View.ld_unit_apply_of _ _ _ _ x _ (fun a => by
      refine Eq.trans ?_ (congrArg (· + (x a).val) (congrFun (k0_off2_eq k) a).symm)
      match a with
      | ⟨0, _⟩ => rfl
      | ⟨1, _⟩ => exact (Nat.zero_add _).symm)
  rw [← e]
  unfold tripL_k0_t1 trip_k0_t1
  rfl

/-- A block of 32 whole rows stored over contents right below it leaves contents right up to its end. -/
theorem read_rows {sg : RefSig} {κ : Kind} {sp : Space} {n : ℕ} {et : EltTy} (a : Memref sg κ sp ⟨2, ![640, n]⟩ et) (f : a.view.ty.Contents (Elt F)) (k : ℕ) (hk : k < 20)
    {off : Fin 2 → ℕ} (inb : ∀ b, off b + (![32, n] : Fin 2 → ℕ) b ≤ (![640, n] : Fin 2 → ℕ) b) (ho : off = ![32 * k, 0])
    (w : (⟨2, ![32, n]⟩ : Shape).Idx → Elt F et) (L : List (View.Piece (Elt F) ⟨2, ![640, n]⟩ et)) (G : (⟨2, ![640, n]⟩ : Shape).Idx → Elt F et)
    (hL : ∀ y, (y 0).val < 32 * k → a.view.read (Elt F) (a.view.writes (Elt F) f L) y = G y)
    (hw : ∀ (y : (⟨2, ![640, n]⟩ : Shape).Idx) (hy : 32 * k ≤ (y 0).val ∧ (y 0).val < 32 * (k + 1)), w (ix2 (⟨(y 0).val % 32, Nat.mod_lt _ (by decide)⟩ : Fin 32) (y 1)) = G y)
    (y : (⟨2, ![640, n]⟩ : Shape).Idx) (hy : (y 0).val < 32 * (k + 1)) :
    a.view.read (Elt F) (a.view.writes (Elt F) f (⟨Rect.unit (s := ⟨2, ![640, n]⟩) off ![32, n] inb, w⟩ :: L)) y = G y := by
  by_cases h : (y 0).val < 32 * k
  · rw [View.read_writes_cons_unit_of_not_mem a.view f inb w L y ho (0 : Fin 2) (by left; exact h)]
    exact hL y h
  · refine (View.read_writes_cons_unit_of_mem a.view f inb w L y (ix2 (⟨(y 0).val % 32, Nat.mod_lt _ (by decide)⟩ : Fin 32) (y 1)) ho (fun b => ?_)).trans (hw y ⟨by omega, hy⟩)
    match b with
    | ⟨0, _⟩ => show (y 0).val = 32 * k + (y 0).val % 32; omega
    | ⟨1, _⟩ => exact (Nat.zero_add _).symm

/-- After `k` trips the rows of the trips made hold what the loop leaves. -/
theorem pb_read (𝒱 : Variants) (c : Dev nD) (bd : Option 𝒱.V) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (h2 : k0_cond2 i = 1#1) (X9 : BufTy.Contents (Elt F) arg9.view.ty) (f5 : BufTy.Contents (Elt F) arg5.view.ty) (f6 : BufTy.Contents (Elt F) arg6.view.ty) (f7 : BufTy.Contents (Elt F) arg7.view.ty) (k : ℕ) (hk : k ≤ 20) :
    (∀ y : S640x6144.Idx, (y 0).val < 32 * k → arg5.view.read (Elt F) (arg5.view.writes (Elt F) f5 (pb_k0_t1 (F := F) 𝒱 c bd i arg1 harg1 arg2 harg2 arg3 harg3 arg4 harg4 arg5 harg5 arg6 harg6 arg7 harg7 arg8 harg8 arg9 harg9 h2 X9 k).1) y = codesOf (arg9.view.read (Elt F) X9) y)
    ∧ (∀ y : S20x32.Idx, (y 0).val < k → arg6.view.read (Elt F) (arg6.view.writes (Elt F) f6 (pb_k0_t1 (F := F) 𝒱 c bd i arg1 harg1 arg2 harg2 arg3 harg3 arg4 harg4 arg5 harg5 arg6 harg6 arg7 harg7 arg8 harg8 arg9 harg9 h2 X9 k).2.1) y = scalesOf (arg9.view.read (Elt F) X9) y)
    ∧ (∀ y : S640x128.Idx, (y 0).val < 32 * k → arg7.view.read (Elt F) (arg7.view.writes (Elt F) f7 (pb_k0_t1 (F := F) 𝒱 c bd i arg1 harg1 arg2 harg2 arg3 harg3 arg4 harg4 arg5 harg5 arg6 harg6 arg7 harg7 arg8 harg8 arg9 harg9 h2 X9 k).2.2) y = repOf (arg9.view.read (Elt F) X9) y) := by
  induction k with
  | zero => exact ⟨fun y hy => absurd hy (by omega), fun y hy => absurd hy (by omega), fun y hy => absurd hy (by omega)⟩
  | succ k ih =>
    obtain ⟨i5, i6, i7⟩ := ih (by omega)
    have ht : k0_t1_loop.trips = 20 := by decide +kernel
    have hs := pb_k0_t1_succ (F := F) 𝒱 c bd i arg1 harg1 arg2 harg2 arg3 harg3 arg4 harg4 arg5 harg5 arg6 harg6 arg7 harg7 arg8 harg8 arg9 harg9 h2 X9 ⟨k, by omega⟩
    rw [trip_pieces (F := F) 𝒱 c bd i arg1 harg1 arg2 harg2 arg3 harg3 arg4 harg4 arg5 harg5 arg6 harg6 arg7 harg7 arg8 harg8 arg9 harg9 h2 X9 ⟨k, by omega⟩] at hs
    dsimp only at hs
    rw [hs]
    refine ⟨?_, ?_, ?_⟩
    · exact read_rows arg5 f5 k (by omega) (k0_off2_inb i _ h2) (k0_off2_eq ⟨k, by omega⟩) _ _ _ i5 (fun y hy => by
        unfold codesOf
        congr 2
        exact Fin.ext (show k = (y 0).val / 32 by omega))
    · intro y hy
      by_cases h : (y 0).val < k
      · refine (View.read_writes_cons_unit_of_not_mem arg6.view f6 (k0_off4_inb i ⟨k, by omega⟩ h2) _ _ y (k0_off4_eq ⟨k, by omega⟩) (0 : Fin 2) (by left; exact h)).trans (i6 y h)
      · have e : (y 0).val = k := by omega
        refine (View.read_writes_cons_unit_of_mem arg6.view f6 (k0_off4_inb i ⟨k, by omega⟩ h2) _ _ y (ix2 (0 : Fin 1) (y 1)) (k0_off4_eq ⟨k, by omega⟩) (fun b => ?_)).trans ?_
        · match b with
          | ⟨0, _⟩ => exact e
          | ⟨1, _⟩ => exact (Nat.zero_add _).symm
        · unfold scalesOf
          congr 2
          exact Fin.ext e.symm
    · exact read_rows arg7 f7 k (by omega) (k0_off3_inb i _ h2) (k0_off3_eq ⟨k, by omega⟩) _ _ _ i7 (fun y hy => by
        unfold repOf
        congr 2
        exact Fin.ext (show k = (y 0).val / 32 by omega))

/-- The loop makes twenty trips. -/
theorem trips20 : Scf.trips k0_t1_loop.lb k0_t1_loop.ub k0_t1_loop.st = 20 := by decide +kernel

/-- After all the trips the three outputs hold what the loop leaves of the scratch `X`. -/
theorem pb_all (𝒱 : Variants) (c : Dev nD) (bd : Option 𝒱.V) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (h2 : k0_cond2 i = 1#1) (X9 : BufTy.Contents (Elt F) arg9.view.ty) (f5 : BufTy.Contents (Elt F) arg5.view.ty) (f6 : BufTy.Contents (Elt F) arg6.view.ty) (f7 : BufTy.Contents (Elt F) arg7.view.ty)
    (X : Vec F S640x6144 .f32) (hX : arg9.view.read (Elt F) X9 = X) (n : ℕ) (hn : n = 20) :
    arg5.view.read (Elt F) (arg5.view.writes (Elt F) f5 (pb_k0_t1 (F := F) 𝒱 c bd i arg1 harg1 arg2 harg2 arg3 harg3 arg4 harg4 arg5 harg5 arg6 harg6 arg7 harg7 arg8 harg8 arg9 harg9 h2 X9 n).1) = codesOf X
    ∧ arg6.view.read (Elt F) (arg6.view.writes (Elt F) f6 (pb_k0_t1 (F := F) 𝒱 c bd i arg1 harg1 arg2 harg2 arg3 harg3 arg4 harg4 arg5 harg5 arg6 harg6 arg7 harg7 arg8 harg8 arg9 harg9 h2 X9 n).2.1) = scalesOf X
    ∧ arg7.view.read (Elt F) (arg7.view.writes (Elt F) f7 (pb_k0_t1 (F := F) 𝒱 c bd i arg1 harg1 arg2 harg2 arg3 harg3 arg4 harg4 arg5 harg5 arg6 harg6 arg7 harg7 arg8 harg8 arg9 harg9 h2 X9 n).2.2) = repOf X := by
  subst hn; subst hX
  obtain ⟨h5, h6, h7⟩ := pb_read (F := F) 𝒱 c bd i arg1 harg1 arg2 harg2 arg3 harg3 arg4 harg4 arg5 harg5 arg6 harg6 arg7 harg7 arg8 harg8 arg9 harg9 h2 X9 f5 f6 f7 20 le_rfl
  exact ⟨funext fun y => h5 y (y 0).isLt, funext fun y => h6 y (y 0).isLt, funext fun y => h7 y (y 0).isLt⟩

-- (the run's proof term is large)
set_option maxHeartbeats 4000000 in
/-- The body at a first point that is not the last. -/
theorem run_first (c : Dev nD) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (hc1 : first i) (hc2 : ¬ k0_cond2 i = 1#1)
    (x0 : Vec F S640x4096 .i8) (x1 : Vec F S640x128 .f32) (x2 : Vec F S2x4096x512 .i8) (x3 : Vec F S2x512 .f32)
    (x8 : Vec F S640x4096 .bf16) (x9 : Vec F S640x6144 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare x8 ∗ owns (c : Thread nD τ) arg9 fullShare x9
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare (k0_pay6 x0) ∗ owns (c : Thread nD τ) arg9 fullShare (put x9 i (gated (k0_pay6 x0) x1 x2 x3))) -∗ K ⟨⟩))
    ⊢ wp frame (wpE (defs₀ (F := F)) Variants.none c none) E (cc0_gateup i arg1 harg1 arg2 harg2 arg3 harg3 arg4 harg4 arg5 harg5 arg6 harg6 arg7 harg7 arg8 harg8 arg9 harg9) K := by
  simp only [cc0_gateup_eq_skeleton, k0_part1_eq_skeleton]; unfold cc0_gateup_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3
  obtain rfl := harg8.eq_unread hf8; obtain rfl := harg9.eq_unread hf9
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H8]
  · iexists _; isplitr
    swap; · iexact H8
    ipureintro
    sl_unfold_words
    rw [View.read_writes_full arg8.view, View.readAt_eq_ld, harg1.read_unread, View.ld_unit_zero (S := S640x4096) hz2]
  iexists _; isplitr
  swap; · iexact H9
  ipureintro
  sl_unfold_words
  simp only [View.readCov_unit_zero (S := S640x4096) _ hz2, View.readAt_eq_ld, harg1.read_unread, harg2.read_unread, harg3.read_unread, harg4.read_unread, View.ld_unit_zero (S := S640x4096) hz2]
  exact read_put arg9 harg9 x9 i _

-- (the run's proof term is large)
set_option maxHeartbeats 4000000 in
/-- The body at a first point that is not the last. -/
theorem run_mid (c : Dev nD) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (hc1 : ¬ first i) (hc2 : ¬ k0_cond2 i = 1#1)
    (x0 : Vec F S640x4096 .i8) (x1 : Vec F S640x128 .f32) (x2 : Vec F S2x4096x512 .i8) (x3 : Vec F S2x512 .f32)
    (x8 : Vec F S640x4096 .bf16) (x9 : Vec F S640x6144 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare x8 ∗ owns (c : Thread nD τ) arg9 fullShare x9
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare x8 ∗ owns (c : Thread nD τ) arg9 fullShare (put x9 i (gated x8 x1 x2 x3))) -∗ K ⟨⟩))
    ⊢ wp frame (wpE (defs₀ (F := F)) Variants.none c none) E (cc0_gateup i arg1 harg1 arg2 harg2 arg3 harg3 arg4 harg4 arg5 harg5 arg6 harg6 arg7 harg7 arg8 harg8 arg9 harg9) K := by
  simp only [cc0_gateup_eq_skeleton, k0_part1_eq_skeleton]; unfold cc0_gateup_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3
  obtain rfl := harg8.eq_unread hf8; obtain rfl := harg9.eq_unread hf9
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H8]
  · iexists _; isplitr; · ipureintro; exact harg8.read_unread _
    iexact H8
  iexists _; isplitr
  swap; · iexact H9
  ipureintro
  sl_unfold_words
  simp only [View.readAt_eq_ld, harg8.read_unread, harg1.read_unread, harg2.read_unread, harg3.read_unread, harg4.read_unread, View.ld_unit_zero (S := S640x4096) hz2]
  exact read_put arg9 harg9 x9 i _

-- (the run's proof term is large)
set_option maxHeartbeats 4000000 in
/-- The body at a first point that is not the last. -/
theorem run_last (c : Dev nD) (i : grid0.Coords) (arg1 : Memref sig .tc .vmem S640x4096 .i8) (harg1 : arg1.IsWhole) (arg2 : Memref sig .tc .vmem S640x128 .f32) (harg2 : arg2.IsWhole) (arg3 : Memref sig .tc .vmem S2x4096x512 .i8) (harg3 : arg3.IsWhole) (arg4 : Memref sig .tc .vmem S2x512 .f32) (harg4 : arg4.IsWhole) (arg5 : Memref sig .tc .vmem S640x6144 .i8) (harg5 : arg5.IsWhole) (arg6 : Memref sig .tc .vmem S20x32 .f32) (harg6 : arg6.IsWhole) (arg7 : Memref sig .tc .vmem S640x128 .f32) (harg7 : arg7.IsWhole) (arg8 : Memref sig .tc .vmem S640x4096 .bf16) (harg8 : arg8.IsWhole) (arg9 : Memref sig .tc .vmem S640x6144 .f32) (harg9 : arg9.IsWhole)
    (hc1 : ¬ first i) (hc2 : k0_cond2 i = 1#1)
    (x0 : Vec F S640x4096 .i8) (x1 : Vec F S640x128 .f32) (x2 : Vec F S2x4096x512 .i8) (x3 : Vec F S2x512 .f32)
    (x8 : Vec F S640x4096 .bf16) (x9 : Vec F S640x6144 .f32) (x5 : Vec F S640x6144 .i8) (x6 : Vec F S20x32 .f32) (x7 : Vec F S640x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare x8 ∗ owns (c : Thread nD τ) arg9 fullShare x9 ∗ owns (c : Thread nD τ) arg5 fullShare x5 ∗ owns (c : Thread nD τ) arg6 fullShare x6 ∗ owns (c : Thread nD τ) arg7 fullShare x7
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare x8 ∗ owns (c : Thread nD τ) arg9 fullShare (put x9 i (gated x8 x1 x2 x3)) ∗ owns (c : Thread nD τ) arg5 fullShare (codesOf (put x9 i (gated x8 x1 x2 x3))) ∗ owns (c : Thread nD τ) arg6 fullShare (scalesOf (put x9 i (gated x8 x1 x2 x3))) ∗ owns (c : Thread nD τ) arg7 fullShare (repOf (put x9 i (gated x8 x1 x2 x3)))) -∗ K ⟨⟩))
    ⊢ wp frame (wpE (defs₀ (F := F)) Variants.none c none) E (cc0_gateup i arg1 harg1 arg2 harg2 arg3 harg3 arg4 harg4 arg5 harg5 arg6 harg6 arg7 harg7 arg8 harg8 arg9 harg9) K := by
  simp only [cc0_gateup_eq_skeleton, k0_part1_eq_skeleton]; unfold cc0_gateup_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg8.eq_unread hf8; obtain rfl := harg9.eq_unread hf9
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H8]
  · iexists _; isplitr; · ipureintro; exact harg8.read_unread _
    iexact H8
  have hX : arg9.view.read (Elt F) (arg9.view.writes (Elt F) (harg9.unread x9) [⟨Rect.unit (s := S640x6144) (k0_off1 i) S640x512.size (k0_off1_inb i), gated x8 x1 x2 x3⟩]) = put x9 i (gated x8 x1 x2 x3) := read_put arg9 harg9 x9 i _
  simp only [View.readAt_eq_ld, harg8.read_unread, harg1.read_unread, harg2.read_unread, harg3.read_unread, harg4.read_unread, View.ld_unit_zero (S := S640x4096) hz2]
  isplitl [H9]
  · iexists _; isplitr
    swap; · iexact H9
    ipureintro
    exact hX
  isplitl [H5]
  · iexists _; isplitr
    swap; · iexact H5
    ipureintro
    exact (pb_all Variants.none c none i arg1 harg1 arg2 harg2 arg3 harg3 arg4 harg4 arg5 harg5 arg6 harg6 arg7 harg7 arg8 harg8 arg9 harg9 hc2 _ f5 f6 f7 _ hX _ trips20).1
  isplitl [H6]
  · iexists _; isplitr
    swap; · iexact H6
    ipureintro
    exact (pb_all Variants.none c none i arg1 harg1 arg2 harg2 arg3 harg3 arg4 harg4 arg5 harg5 arg6 harg6 arg7 harg7 arg8 harg8 arg9 harg9 hc2 _ f5 f6 f7 _ hX _ trips20).2.1
  iexists _; isplitr
  swap; · iexact H7
  ipureintro
  exact (pb_all Variants.none c none i arg1 harg1 arg2 harg2 arg3 harg3 arg4 harg4 arg5 harg5 arg6 harg6 arg7 harg7 arg8 harg8 arg9 harg9 hc2 _ f5 f6 f7 _ hX _ trips20).2.2

end Cert.GateUpIdeal.Hand

end
-- ==== Proof.GateUpFrame.lean ====
/-
  The gate/up projection's run on its grid of twelve points: what the carried buffers hold between points, the body's
  run at every point, the run of the whole program, and the frame it gives.
-/
module

public import proofs.«01_k».proof.Proof.GateUpRun
public import Idealize.ShloMosaic.Lib.Pipeline.ArrRel

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window)
open Cert.GateUpIdeal Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' staging buffers at a point. -/
abbrev ms0_0 (t : Fin cfg0.N) : Memref sig .tc .vmem S640x4096 .i8 := win0_0.stage (cfg0.slots t 0)
abbrev ms0_1 (t : Fin cfg0.N) : Memref sig .tc .vmem S640x128 .f32 := win0_1.stage (cfg0.slots t 1)
abbrev ms0_2 (t : Fin cfg0.N) : Memref sig .tc .vmem S2x4096x512 .i8 := win0_2.stage (cfg0.slots t 2)
abbrev ms0_3 (t : Fin cfg0.N) : Memref sig .tc .vmem S2x512 .f32 := win0_3.stage (cfg0.slots t 3)
abbrev ms0_4 (t : Fin cfg0.N) : Memref sig .tc .vmem S640x6144 .i8 := win0_4.stage (cfg0.slots t 4)
abbrev ms0_5 (t : Fin cfg0.N) : Memref sig .tc .vmem S20x32 .f32 := win0_5.stage (cfg0.slots t 5)
abbrev ms0_6 (t : Fin cfg0.N) : Memref sig .tc .vmem S640x128 .f32 := win0_6.stage (cfg0.slots t 6)
/-- The carried buffers: the widened codes and the gated products. -/
abbrev scM0_0 : Memref sig .tc .vmem S640x4096 .bf16 := Memref.whole cc0_scratch0
abbrev scM0_1 : Memref sig .tc .vmem S640x6144 .f32 := Memref.whole cc0_scratch1

/-- What the launch hands the run: both carried buffers at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The grid coordinate of a point is its number. -/
theorem coord_val (t : Fin cfg0.N) : (grid0.coords t 0).val = t.val := by
  have ht : t.val < 12 := Nat.lt_of_lt_of_eq t.isLt N_0
  have e0 : (grid0.coords t 0).val = t.val / 1 % 12 := Pipeline.Grid.coords_val t 0 (by decide) rfl
  omega

/-- The first point's condition holds at the first point only. -/
theorem first_iff : ∀ t : Fin cfg0.N, first (grid0.coords t) ↔ t.val = 0 :=
  (by decide +kernel : ∀ t : Fin grid0.N, first (grid0.coords t) ↔ t.val = 0)

/-- The last point's condition holds at the last point only. -/
theorem last_iff : ∀ t : Fin cfg0.N, k0_cond2 (grid0.coords t) = 1#1 ↔ t.val = 11 :=
  (by decide +kernel : ∀ t : Fin grid0.N, k0_cond2 (grid0.coords t) = 1#1 ↔ t.val = 11)

/-- The widened codes, as the first point leaves them. -/
def xb (c : Dev nD) : Vec F S640x4096 .bf16 := k0_pay6 (iblk m c 0 t0_0)

/-- The block of gated products of point `t`. -/
def hcol (c : Dev nD) (t : Fin cfg0.N) : FVec F S640x512 .f32 := gated (xb m c) (iblk m c 1 t) (iblk m c 2 t) (iblk m c 3 t)

/-- All the gated products: column `y 1` is computed at point `y 1 / 512`. -/
def hfull (c : Dev nD) : Vec F S640x6144 .f32 := fun y =>
  hcol m c (⟨(y 1).val / 512, by have : (y 1).val < 6144 := (y 1).isLt; rw [show cfg0.N = 12 from N_0]; omega⟩ : Fin cfg0.N)
    (ix2 (y 0) (⟨(y 1).val % 512, Nat.mod_lt _ (by decide)⟩ : Fin 512))

/-- The first `512 * n` columns hold the gated products. -/
def Upto (c : Dev nD) (n : ℕ) (x9 : Vec F S640x6144 .f32) : Prop := ∀ y : S640x6144.Idx, (y 1).val < 512 * n → x9 y = hfull m c y

/-- Point `t` extends the columns computed by its own block. -/
theorem put_upto (c : Dev nD) (t : Fin cfg0.N) (x9 : Vec F S640x6144 .f32) (h : Upto m c t.val x9) :
    Upto m c (t.val + 1) (put x9 (grid0.coords t) (hcol m c t)) := by
  intro y hy
  have ec := coord_val t
  unfold put
  by_cases hm : ∀ a, (![0, 512 * (grid0.coords t 0).val] : Fin 2 → ℕ) a ≤ (y a).val ∧ (y a).val < (![0, 512 * (grid0.coords t 0).val] : Fin 2 → ℕ) a + S640x512.size a
  · rw [dif_pos hm]
    have h1 : 512 * (grid0.coords t 0).val ≤ (y 1).val := (hm 1).1
    unfold hfull
    have et : (⟨(y 1).val / 512, by have : (y 1).val < 6144 := (y 1).isLt; rw [show cfg0.N = 12 from N_0]; omega⟩ : Fin cfg0.N) = t := Fin.ext (by show (y 1).val / 512 = t.val; omega)
    rw [et]
    refine congrArg _ (funext fun a => Fin.ext ?_)
    match a with
    | ⟨0, _⟩ => show (y 0).val - 0 = (y 0).val; omega
    | ⟨1, _⟩ => show (y 1).val - 512 * (grid0.coords t 0).val = (y 1).val % 512; omega
  · rw [dif_neg hm]
    refine h y ?_
    by_contra hlt
    refine hm fun a => ?_
    match a with
    | ⟨0, _⟩ => exact ⟨Nat.zero_le _, by show (y 0).val < 0 + 640; have : (y 0).val < 640 := (y 0).isLt; omega⟩
    | ⟨1, _⟩ => exact ⟨by show 512 * (grid0.coords t 0).val ≤ (y 1).val; omega, by show (y 1).val < 512 * (grid0.coords t 0).val + 512; omega⟩

/-- After the last point every column is computed. -/
theorem upto_all (c : Dev nD) (n : ℕ) (hn : n = 12) (x9 : Vec F S640x6144 .f32) (h : Upto m c n x9) : x9 = hfull m c := by
  subst hn
  exact funext fun y => h y (by have : (y 1).val < 6144 := (y 1).isLt; omega)

/-- The invariant before point `n`: before the first the launch's; afterwards the codes widened, the columns of the points
    run computed, and the generator register at some state. -/
def PhiG (c : Dev nD) : ℕ → sProp 𝕄
  | 0 => Pipeline.ΦA spec0 c
  | n + 1 => iprop(owns (c : Thread nD τ) scM0_0 fullShare (xb m c) ∗ (∃ x9, ⌜Upto m c (n + 1) x9⌝ ∗ owns (c : Thread nD τ) scM0_1 fullShare x9) ∗ (∃ r, prngReg c r))

theorem PhiG_pos (c : Dev nD) (n : ℕ) (h : n ≠ 0) :
    PhiG m c n = iprop(owns (c : Thread nD τ) scM0_0 fullShare (xb m c) ∗ (∃ x9, ⌜Upto m c n x9⌝ ∗ owns (c : Thread nD τ) scM0_1 fullShare x9) ∗ (∃ r, prngReg c r)) := by
  cases n with
  | zero => exact absurd rfl h
  | succ n => rfl

/-- The run's data: the arrays as the region finds them; the inputs' buffers left as found; each output's buffer left, at
    the last point, at what the loop over the rows computes from all the gated products (before it, at anything). -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => t.val = 11 → X = codesOf (hfull m c)
    | ⟨5, _⟩ => fun _ X => t.val = 11 → X = scalesOf (hfull m c)
    | ⟨6, _⟩ => fun _ X => t.val = 11 → X = repOf (hfull m c)
  Φ t := PhiG m c t.val
  q _ := fullShare
  owed _ := 0

theorem A_eq (c : Dev nD) (w : Fin cfg0.W) : (rdat m c).A w = V m c (Pipeline.arrRef spec0 w) := by
  dsimp only [rdat]

/-- Each input's buffer holds its block at every point. -/
theorem finds0_0 (c : Dev nD) (t : Fin cfg0.N) (Y) (hY : (rdat m c).Finds 0 t Y) : Y = iblk m c 0 t := by
  obtain ⟨d, hd⟩ := Pipeline.RDat.finds_in_eq_fetched (rdat m c) 0 rfl (fun _ _ _ => rfl) (fun t Y X h => h) t Y hY
  exact hd.trans (by unfold Pipeline.RDat.fetched Pipeline.RDat.blockOf iblk; rw [A_eq]; try rfl)
theorem finds0_1 (c : Dev nD) (t : Fin cfg0.N) (Y) (hY : (rdat m c).Finds 1 t Y) : Y = iblk m c 1 t := by
  obtain ⟨d, hd⟩ := Pipeline.RDat.finds_in_eq_fetched (rdat m c) 1 rfl (fun _ _ _ => rfl) (fun t Y X h => h) t Y hY
  exact hd.trans (by unfold Pipeline.RDat.fetched Pipeline.RDat.blockOf iblk; rw [A_eq]; try rfl)
theorem finds0_2 (c : Dev nD) (t : Fin cfg0.N) (Y) (hY : (rdat m c).Finds 2 t Y) : Y = iblk m c 2 t := by
  obtain ⟨d, hd⟩ := Pipeline.RDat.finds_in_eq_fetched (rdat m c) 2 rfl (fun _ _ _ => rfl) (fun t Y X h => h) t Y hY
  exact hd.trans (by unfold Pipeline.RDat.fetched Pipeline.RDat.blockOf iblk; rw [A_eq]; try rfl)
theorem finds0_3 (c : Dev nD) (t : Fin cfg0.N) (Y) (hY : (rdat m c).Finds 3 t Y) : Y = iblk m c 3 t := by
  obtain ⟨d, hd⟩ := Pipeline.RDat.finds_in_eq_fetched (rdat m c) 3 rfl (fun _ _ _ => rfl) (fun t Y X h => h) t Y hY
  exact hd.trans (by unfold Pipeline.RDat.fetched Pipeline.RDat.blockOf iblk; rw [A_eq]; try rfl)

/-- What the body is handed at point `t`, the windows one by one. -/
def bodyPre (c : Dev nD) (t : Fin cfg0.N) (y4 : Vec F S640x6144 .i8) (y5 : Vec F S20x32 .f32) (y6 : Vec F S640x128 .f32) : sProp 𝕄 :=
  iprop(PhiG m c t.val ∗ (rdat m c).owesAt () t.castSucc
    ∗ owns (c : Thread nD τ) (ms0_0 t) fullShare (iblk m c 0 t : Vec F S640x4096 .i8)
    ∗ owns (c : Thread nD τ) (ms0_1 t) fullShare (iblk m c 1 t : Vec F S640x128 .f32)
    ∗ owns (c : Thread nD τ) (ms0_2 t) fullShare (iblk m c 2 t : Vec F S2x4096x512 .i8)
    ∗ owns (c : Thread nD τ) (ms0_3 t) fullShare (iblk m c 3 t : Vec F S2x512 .f32)
    ∗ owns (c : Thread nD τ) (ms0_4 t) fullShare y4
    ∗ owns (c : Thread nD τ) (ms0_5 t) fullShare y5
    ∗ owns (c : Thread nD τ) (ms0_6 t) fullShare y6)

/-- What the body hands back. -/
def bodyPost (c : Dev nD) (t : Fin cfg0.N) : sProp 𝕄 :=
  iprop(PhiG m c (t.val + 1) ∗ (rdat m c).owesAt () t.castSucc
    ∗ (∃ X : Vec F S640x4096 .i8, ⌜X = iblk m c 0 t⌝ ∗ owns (c : Thread nD τ) (ms0_0 t) fullShare X)
    ∗ (∃ X : Vec F S640x128 .f32, ⌜X = iblk m c 1 t⌝ ∗ owns (c : Thread nD τ) (ms0_1 t) fullShare X)
    ∗ (∃ X : Vec F S2x4096x512 .i8, ⌜X = iblk m c 2 t⌝ ∗ owns (c : Thread nD τ) (ms0_2 t) fullShare X)
    ∗ (∃ X : Vec F S2x512 .f32, ⌜X = iblk m c 3 t⌝ ∗ owns (c : Thread nD τ) (ms0_3 t) fullShare X)
    ∗ (∃ X : Vec F S640x6144 .i8, ⌜t.val = 11 → X = codesOf (hfull m c)⌝ ∗ owns (c : Thread nD τ) (ms0_4 t) fullShare X)
    ∗ (∃ X : Vec F S20x32 .f32, ⌜t.val = 11 → X = scalesOf (hfull m c)⌝ ∗ owns (c : Thread nD τ) (ms0_5 t) fullShare X)
    ∗ (∃ X : Vec F S640x128 .f32, ⌜t.val = 11 → X = repOf (hfull m c)⌝ ∗ owns (c : Thread nD τ) (ms0_6 t) fullShare X))

/-- The body at any point: the first, a middle one, or the last. -/
theorem sound_body (c : Dev nD) (t : Fin cfg0.N) (y4 : Vec F S640x6144 .i8) (y5 : Vec F S20x32 .f32) (y6 : Vec F S640x128 .f32) :
    bodyPre m c t y4 y5 y6 ⊢ wp frame (wpE (defs₀ (F := F)) Variants.none c none) Set.univ (bodyAt0 t) (fun _ => bodyPost m c t) := by
  unfold bodyPre bodyPost bodyAt0
  rw [PhiG_pos m c (t.val + 1) (Nat.succ_ne_zero _)]
  by_cases h0 : t.val = 0
  · have h2 : ¬ k0_cond2 (grid0.coords t) = 1#1 := fun h => by have := (last_iff t).mp h; omega
    have et : t = t0_0 := Fin.ext h0
    rw [h0, show PhiG m c 0 = Pipeline.ΦA spec0 c from rfl, PhiA0_eq]
    iintro ⟨⟨⟨⟨%x8, H8⟩, ⟨%x9, H9⟩⟩, Hg⟩, Ho, H0, H1, H2, H3, H4, H5, H6⟩
    iapply (run_first c (grid0.coords t) _ _ _ _ _ _ _ _ _ _ _ _ _ _ _ _ _ _ ((first_iff t).mpr h0) h2 (iblk m c 0 t) (iblk m c 1 t) (iblk m c 2 t) (iblk m c 3 t) x8 x9 Set.univ _)
    isplitl [H0]; · iexact H0
    isplitl [H1]; · iexact H1
    isplitl [H2]; · iexact H2
    isplitl [H3]; · iexact H3
    isplitl [H8]; · iexact H8
    isplitl [H9]; · iexact H9
    have ex : (k0_pay6 (iblk m c 0 t) : Vec F S640x4096 .bf16) = xb m c := by unfold xb; rw [et]
    rw [ex]
    iintro ⟨H0, H1, H2, H3, H8, H9⟩
    isplitl [H8 H9 Hg]
    · isplitl [H8]; · iexact H8
      isplitl [H9]
      · iexists _; isplitr
        swap; · iexact H9
        ipureintro
        have := put_upto m c t x9 (by rw [h0]; exact fun y hy => absurd hy (by omega))
        rw [h0] at this
        exact this
      iexact Hg
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    isplitl [H4]; · iexists _; isplitr
                    swap; · iexact H4
                    ipureintro; exact fun h => absurd h (by omega)
    isplitl [H5]; · iexists _; isplitr
                    swap; · iexact H5
                    ipureintro; exact fun h => absurd h (by omega)
    iexists _; isplitr
    swap; · iexact H6
    ipureintro; exact fun h => absurd h (by omega)
  · have h1 : ¬ first (grid0.coords t) := fun h => h0 ((first_iff t).mp h)
    rw [PhiG_pos m c t.val h0]
    by_cases hl : t.val = 11
    · iintro ⟨⟨H8, ⟨%x9, %hx9, H9⟩, Hg⟩, Ho, H0, H1, H2, H3, H4, H5, H6⟩
      iapply (run_last c (grid0.coords t) _ _ _ _ _ _ _ _ _ _ _ _ _ _ _ _ _ _ h1 ((last_iff t).mpr hl) (iblk m c 0 t) (iblk m c 1 t) (iblk m c 2 t) (iblk m c 3 t) (xb m c) x9 y4 y5 y6 Set.univ _)
      isplitl [H0]; · iexact H0
      isplitl [H1]; · iexact H1
      isplitl [H2]; · iexact H2
      isplitl [H3]; · iexact H3
      isplitl [H8]; · iexact H8
      isplitl [H9]; · iexact H9
      isplitl [H4]; · iexact H4
      isplitl [H5]; · iexact H5
      isplitl [H6]; · iexact H6
      have hu := put_upto m c t x9 hx9
      have ha := upto_all m c (t.val + 1) (by omega) _ hu
      iintro ⟨H0, H1, H2, H3, H8, H9, H4, H5, H6⟩
      isplitl [H8 H9 Hg]
      · isplitl [H8]; · iexact H8
        isplitl [H9]
        · iexists _; isplitr
          swap; · iexact H9
          ipureintro
          exact hu
        iexact Hg
      isplitl [Ho]; · iexact Ho
      isplitl [H0]; · iexists _; isplitr; · ipureintro; exact rfl
                      iexact H0
      isplitl [H1]; · iexists _; isplitr; · ipureintro; exact rfl
                      iexact H1
      isplitl [H2]; · iexists _; isplitr; · ipureintro; exact rfl
                      iexact H2
      isplitl [H3]; · iexists _; isplitr; · ipureintro; exact rfl
                      iexact H3
      isplitl [H4]; · iexists _; isplitr
                      swap; · iexact H4
                      ipureintro; exact fun _ => congrArg codesOf ha
      isplitl [H5]; · iexists _; isplitr
                      swap; · iexact H5
                      ipureintro; exact fun _ => congrArg scalesOf ha
      iexists _; isplitr
      swap; · iexact H6
      ipureintro; exact fun _ => congrArg repOf ha
    · have h2 : ¬ k0_cond2 (grid0.coords t) = 1#1 := fun h => hl ((last_iff t).mp h)
      iintro ⟨⟨H8, ⟨%x9, %hx9, H9⟩, Hg⟩, Ho, H0, H1, H2, H3, H4, H5, H6⟩
      iapply (run_mid c (grid0.coords t) _ _ _ _ _ _ _ _ _ _ _ _ _ _ _ _ _ _ h1 h2 (iblk m c 0 t) (iblk m c 1 t) (iblk m c 2 t) (iblk m c 3 t) (xb m c) x9 Set.univ _)
      isplitl [H0]; · iexact H0
      isplitl [H1]; · iexact H1
      isplitl [H2]; · iexact H2
      isplitl [H3]; · iexact H3
      isplitl [H8]; · iexact H8
      isplitl [H9]; · iexact H9
      have hu := put_upto m c t x9 hx9
      iintro ⟨H0, H1, H2, H3, H8, H9⟩
      isplitl [H8 H9 Hg]
      · isplitl [H8]; · iexact H8
        isplitl [H9]
        · iexists _; isplitr
          swap; · iexact H9
          ipureintro
          exact hu
        iexact Hg
      isplitl [Ho]; · iexact Ho
      isplitl [H0]; · iexists _; isplitr; · ipureintro; exact rfl
                      iexact H0
      isplitl [H1]; · iexists _; isplitr; · ipureintro; exact rfl
                      iexact H1
      isplitl [H2]; · iexists _; isplitr; · ipureintro; exact rfl
                      iexact H2
      isplitl [H3]; · iexists _; isplitr; · ipureintro; exact rfl
                      iexact H3
      isplitl [H4]; · iexists _; isplitr
                      swap; · iexact H4
                      ipureintro; exact fun h => absurd h hl
      isplitl [H5]; · iexists _; isplitr
                      swap; · iexact H5
                      ipureintro; exact fun h => absurd h hl
      iexists _; isplitr
      swap; · iexact H6
      ipureintro; exact fun h => absurd h hl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  have e0 := finds0_0 m c t _ (hY 0)
  have e1 := finds0_1 m c t _ (hY 1)
  have e2 := finds0_2 m c t _ (hY 2)
  have e3 := finds0_3 m c t _ (hY 3)
  rw [bigSep_W0, bigSep_W0, defs₀_row, e0, e1, e2, e3]
  exact triple_restated (sound_body m c t (Y 4) (Y 5) (Y 6)) rfl .rfl fun _ => .rfl

/-- What the launch hands the region is the invariant before the first point. -/
theorem hin (c : Dev nD) : Pipeline.ΦA spec0 c ⊢ (rdat m c).Φ 0 := by
  rw [show (rdat m c).Φ 0 = Pipeline.ΦA spec0 c from rfl]

/-- After the last point the invariant gives the launch's back. -/
theorem hout (c : Dev nD) : (rdat m c).Φ (Fin.last cfg0.N) ⊢ Pipeline.ΦA spec0 c := by
  rw [show (rdat m c).Φ (Fin.last cfg0.N) = PhiG m c (Fin.last cfg0.N).val from rfl,
    PhiG_pos m c _ (by rw [Fin.val_last]; have : cfg0.N = 12 := N_0; omega), PhiA0_eq]
  iintro ⟨H8, ⟨%x9, %hx9, H9⟩, Hg⟩
  isplitl [H8 H9]
  · isplitl [H8]; · iexists _; iexact H8
    iexists _; iexact H9
  iexact Hg

-- the run theorem's implicit arguments are found by unifying its conclusion with this one
set_option backward.isDefEq.respectTransparency.types false in
/-- The run of the whole program: the arrays end as the data say, every semaphore counter at zero. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := A_eq m) (hin := hin m) (hout := hout m)

/-- The arguments are as they were. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (Pipeline.RDat.FramePost.arr_in h c 3 rfl).trans ((A_eq m c 3).trans (V_main_arg3 m c))⟩

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main_quiescent m ρ)

/-- What the body leaves at the last point in the codes' and the scales' buffers. -/
theorem leaves_4 (c : Dev nD) (X : Vec F S640x6144 .i8) (h : (rdat m c).Leaves 4 t0_11 X) : X = codesOf (hfull m c) := by
  obtain ⟨Y, _, hX⟩ := h
  exact hX rfl
theorem leaves_5 (c : Dev nD) (X : Vec F S20x32 .f32) (h : (rdat m c).Leaves 5 t0_11 X) : X = scalesOf (hfull m c) := by
  obtain ⟨Y, _, hX⟩ := h
  exact hX rfl

theorem whole_4 : (cfg0.win 4).WholeAt t0_11 := (by decide +kernel : win0_4.WholeAt t0_11)
theorem whole_5 : (cfg0.win 5).WholeAt t0_11 := (by decide +kernel : win0_5.WholeAt t0_11)

/-- The codes array and the scales array after the run. -/
theorem results (r : PUnit × MemSt nD τ sig (Elt F)) (h : Pipeline.RDat.FramePost cfg0 (rdat m) (V m) r) (c : Dev nD) :
    r.2.mem ((c.tc : Thread nD τ).loc main_v3_0) = codesOf (hfull m c)
    ∧ r.2.mem ((c.tc : Thread nD τ).loc main_v3_1) = scalesOf (hfull m c) := by
  refine ⟨?_, ?_⟩
  · obtain ⟨X, hX, hj⟩ := ((h c).1 4).emb_eq_of_wholeAt whole_4
    have e := leaves_4 m c X hX
    subst e
    exact funext fun j => hj j
  · obtain ⟨X, hX, hj⟩ := ((h c).1 5).emb_eq_of_wholeAt whole_5
    have e := leaves_5 m c X hX
    subst e
    exact funext fun j => hj j

end Cert.GateUpIdeal.Hand

end
-- ==== Proof.GateUpValue.lean ====
/-
  The gate and up projections: what the kernel leaves in the codes and the scales is the reference's value, at the extended reals.
-/
module

public import proofs.«01_k».proof.Defs
public import proofs.«01_k».proof.Proof.GateUpFrame
public import proofs.«01_k».proof.Proof.Gen.GateUpRefIdeal.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.GateUpIdeal.Hand

open Cert.GateUpIdeal Cert.GateUpIdeal.Gen

/-- The scale of each row of the whole intermediate array: its largest magnitude over 127, or one where that is zero. -/
def wholeScale (X : FVec Ideal GateUpRefIdeal.S640x6144 .f32) : FVec Ideal GateUpRefIdeal.S640 .f32 :=
  select (cmpf .oeq (multiReduction .maximumf [1] GateUpRefIdeal.S640 (absf X) 0xFF800000#32 GateUpRefIdeal.Gen.reduces_S640x6144_S640 (.inl rfl) rfl)
      (broadcast GateUpRefIdeal.S640 (Scalar.ofBits .f32 0x00000000#32)))
    (broadcast GateUpRefIdeal.S640 (Scalar.ofBits .f32 0x3F800000#32))
    (divf (multiReduction .maximumf [1] GateUpRefIdeal.S640 (absf X) 0xFF800000#32 GateUpRefIdeal.Gen.reduces_S640x6144_S640 (.inl rfl) rfl)
      (broadcast GateUpRefIdeal.S640 (Scalar.ofBits .f32 0x42FE0000#32)))

theorem pay4_eq (a0 : Vec Ideal S640x4096 .i8) (a1 : Vec Ideal S20x32 .f32) (a2 : Vec Ideal S4096x2x6144 .i8) (a3 : Vec Ideal S2x6144 .f32) :
    GateUpRefIdeal.Gen.k0_pay4 a0 a1 a2 a3 = wholeScale (GateUpRefIdeal.Gen.k0_pay3 a0 a1 a2 a3) := rfl

/-- The codes of the whole intermediate array, from the scale of each row. -/
def wholeCodes (X : FVec Ideal GateUpRefIdeal.S640x6144 .f32) (s : FVec Ideal GateUpRefIdeal.S640 .f32) : IVec GateUpRefIdeal.S640x6144 8 :=
  GateUpRefIdeal.Gen.k0_pay1 (divf X (broadcastTo GateUpRefIdeal.S640x6144 (shapeCast GateUpRefIdeal.S640x1 s GateUpRefIdeal.Gen.shapeCasts_S640_S640x1) GateUpRefIdeal.Gen.broadcasts_S640x1_S640x6144))

theorem codes_eq (a0 : Vec Ideal S640x4096 .i8) (a1 : Vec Ideal S20x32 .f32) (a2 : Vec Ideal S4096x2x6144 .i8) (a3 : Vec Ideal S2x6144 .f32) :
    GateUpRefIdeal.Gen.k0_pay1 (GateUpRefIdeal.Gen.k0_pay5 a0 a1 a2 a3)
      = wholeCodes (GateUpRefIdeal.Gen.k0_pay3 a0 a1 a2 a3) (GateUpRefIdeal.Gen.k0_pay4 a0 a1 a2 a3) := rfl

/-- An entry of the scaled product, from a row of codes, a column of weights and their two scales. -/
def proj (x w : Fin 4096 → EReal) (s t : EReal) : EReal := (∑ k, x k * w k) * s * t

/-- The gate through its activation, times the up projection. -/
def act (g u : EReal) : EReal := g * Ideal.logistic g * u

theorem gated_apply (x8 : Vec Ideal S640x4096 .bf16) (x1 : Vec Ideal S640x128 .f32) (x2 : Vec Ideal S2x4096x512 .i8) (x3 : Vec Ideal S2x512 .f32)
    (r : Fin 640) (j : Fin 512) : gated x8 x1 x2 x3 (ix2 r j)
      = act (proj (fun k => x8 (ix2 r k)) (fun k => FloatOps.sitofp (F := Ideal) .bf16 (x2 (ix3 (0 : Fin 2) k j))) (x1 (ix2 r (0 : Fin 128))) (x3 (ix2 (0 : Fin 2) j)))
        (proj (fun k => x8 (ix2 r k)) (fun k => FloatOps.sitofp (F := Ideal) .bf16 (x2 (ix3 (1 : Fin 2) k j))) (x1 (ix2 r (0 : Fin 128))) (x3 (ix2 (1 : Fin 2) j))) := by
  unfold proj act gated k0_pay1 k0_pay7
  pointwise

theorem whole_apply (a0 : Vec Ideal S640x4096 .i8) (a1 : Vec Ideal S20x32 .f32) (a2 : Vec Ideal S4096x2x6144 .i8) (a3 : Vec Ideal S2x6144 .f32)
    (r : Fin 640) (j : Fin 6144) : GateUpRefIdeal.Gen.k0_pay3 a0 a1 a2 a3 (ix2 r j)
      = act (proj (fun k => FloatOps.sitofp (F := Ideal) .bf16 (a0 (ix2 r k))) (fun k => FloatOps.sitofp (F := Ideal) .bf16 (a2 (ix3 k (0 : Fin 2) j)))
          (a1 (ix2 (⟨r.val / 32, by omega⟩ : Fin 20) (⟨r.val % 32, by omega⟩ : Fin 32))) (a3 (ix2 (0 : Fin 2) j)))
        (proj (fun k => FloatOps.sitofp (F := Ideal) .bf16 (a0 (ix2 r k))) (fun k => FloatOps.sitofp (F := Ideal) .bf16 (a2 (ix3 k (1 : Fin 2) j)))
          (a1 (ix2 (⟨r.val / 32, by omega⟩ : Fin 20) (⟨r.val % 32, by omega⟩ : Fin 32))) (a3 (ix2 (1 : Fin 2) j))) := by
  unfold proj act GateUpRefIdeal.Gen.k0_pay3
  pointwise

/-- The scale of a row of values: the largest magnitude over 127, or one where that is zero. -/
def rowScale {d : ℕ} (v : Fin d → EReal) : EReal :=
  if Finset.fold max (Ideal.ofBits FTy.f32 4286578688#32) (fun x => FloatOps.absf (F := Ideal) (φ := .f32) (v x)) Finset.univ = 0 then 1
    else Ideal.div (Finset.fold max (Ideal.ofBits FTy.f32 4286578688#32) (fun x => FloatOps.absf (F := Ideal) (φ := .f32) (v x)) Finset.univ)
      (Ideal.ofBits FTy.f32 1123942400#32)

/-- A value over its scale, rounded and clamped to a code. -/
def code (q : EReal) : BitVec 8 :=
  FloatOps.fptosi (F := Ideal) (φ := .f32) 8 (min (Ideal.ofBits FTy.f32 1123942400#32) (max (Ideal.ofBits FTy.f32 3271426048#32) (Ideal.liftRound Ideal.roundHalfEven q)))

theorem pay2_apply (v : Vec Ideal S32x6144 .f32) (a : Fin 32) : k0_pay2 v (ix2 a (0 : Fin 1)) = rowScale (fun j => v (ix2 a j)) := by
  unfold rowScale k0_pay2
  pointwise

/-- A row's largest magnitude, as the maximum's fold along the row. -/
theorem rowMax {n d : Nat} (X : FVec Ideal (⟨2, ![n, d]⟩ : Shape) .f32) (h : (⟨2, ![n, d]⟩ : Shape).Reduces [1] ⟨1, ![n]⟩)
    (hφ : FKind.Formats .f32) (hacc : (0xFF800000#32 : BitVec 32) = FKind.maximumf.neutral .f32 hφ) (r : Fin n) :
    multiReduction .maximumf [1] (⟨1, ![n]⟩ : Shape) (absf X) 0xFF800000#32 h hφ hacc (ix1 r)
      = Finset.fold max (Ideal.ofBits FTy.f32 4286578688#32) (fun x => FloatOps.absf (F := Ideal) (φ := .f32) (X (ix2 r x))) Finset.univ := by
  rw [Ideal.multiReduction_maximumf_single]
  refine congrArg (fun f : Fin d → EReal => Finset.fold max (Ideal.ofBits FTy.f32 4286578688#32) f Finset.univ) (funext fun k => ?_)
  refine congrArg (fun i => FloatOps.absf (F := Ideal) (φ := .f32) (X i)) (funext fun a => Fin.ext ?_)
  match a with
  | ⟨0, _⟩ => rfl
  | ⟨1, _⟩ => rfl

/-- The choice of a scale from the largest magnitudes, at a row. -/
theorem scale_apply (M : FVec Ideal GateUpRefIdeal.S640 .f32) (r : Fin 640) :
    select (cmpf .oeq M (broadcast GateUpRefIdeal.S640 (Scalar.ofBits .f32 0x00000000#32))) (broadcast GateUpRefIdeal.S640 (Scalar.ofBits .f32 0x3F800000#32))
      (divf M (broadcast GateUpRefIdeal.S640 (Scalar.ofBits .f32 0x42FE0000#32))) (ix1 r)
    = if M (ix1 r) = 0 then 1 else Ideal.div (M (ix1 r)) (Ideal.ofBits FTy.f32 1123942400#32) := by
  pointwise

theorem wholeScale_apply (X : FVec Ideal GateUpRefIdeal.S640x6144 .f32) (r : Fin 640) : wholeScale X (ix1 r) = rowScale (fun j => X (ix2 r j)) := by
  unfold rowScale
  rw [← rowMax X GateUpRefIdeal.Gen.reduces_S640x6144_S640 (.inl rfl) rfl r]
  exact scale_apply _ r

theorem pay3_apply (v : Vec Ideal S32x6144 .f32) (a : Fin 32) (j : Fin 6144) :
    k0_pay3 v (ix2 a j) = code (v (ix2 a j) * Ideal.div 1 (k0_pay2 v (ix2 a (0 : Fin 1)))) := by
  unfold code k0_pay3
  generalize k0_pay2 v = s
  pointwise

theorem wholeCodes_apply (X : FVec Ideal GateUpRefIdeal.S640x6144 .f32) (s : FVec Ideal GateUpRefIdeal.S640 .f32) (r : Fin 640) (j : Fin 6144) :
    wholeCodes X s (ix2 r j) = code (Ideal.div (X (ix2 r j)) (s (ix1 r))) := by
  unfold code wholeCodes GateUpRefIdeal.Gen.k0_pay1
  pointwise

theorem refScales_apply (s : FVec Ideal GateUpRefIdeal.S640 .f32) (i : Fin 20) (j : Fin 32) :
    GateUpRefIdeal.Gen.k0_pay2 s (ix2 i j) = s (ix1 (⟨32 * i.val + j.val, by omega⟩ : Fin 640)) := by
  unfold GateUpRefIdeal.Gen.k0_pay2
  pointwise
  exact congrArg s (congrArg ix1 (Fin.ext (by dsimp only; omega)))

/-- Two lane numbers agree as words exactly when they agree. -/
theorem lane_eq : ∀ a j : Fin 32, IntOp.cmpi .eq (BitVec.ofNat 32 a.val) (BitVec.ofNat 32 j.val) = if a = j then 1#1 else 0#1 := by
  decide +kernel

/-- The diagonal's sum over the rows keeps each row's scale in its own lane. -/
theorem pay5_apply (v : Vec Ideal S32x6144 .f32) (j : Fin 32) : k0_pay5 v (ix2 (0 : Fin 1) j) = k0_pay2 v (ix2 j (0 : Fin 1)) := by
  unfold k0_pay5 k0_pay4
  generalize k0_pay2 v = s
  pointwise
  refine (Finset.sum_eq_single j (fun a _ ha => ?_) (fun h => absurd (Finset.mem_univ j) h)).trans ?_
  · rw [lane_eq, if_neg ha]; rfl
  · rw [lane_eq, if_pos rfl]; rfl

theorem ofBits_127 : Ideal.ofBits FTy.f32 1123942400#32 = ((127 : ℝ) : EReal) := by
  simp [Ideal.ofBits, Ideal.ieee, -EReal.coe_mul]; norm_num

/-- A row's scale is never zero. -/
theorem rowScale_ne {d : ℕ} (v : Fin d → EReal) : rowScale v ≠ 0 := by
  unfold rowScale
  split
  · exact one_ne_zero
  · next h =>
    rw [ofBits_127, Ideal.div_coe (by norm_num)]
    exact mul_ne_zero h (by norm_num)

/-- Multiplying by the inverse of a scale that is not zero is dividing by it. -/
theorem mul_inv (x s : EReal) (h : s ≠ 0) : x * Ideal.div 1 s = Ideal.div x s := by
  unfold Ideal.div
  rw [if_neg h, if_neg h, one_mul]

end Cert.GateUpIdeal.Hand

end
-- ==== Proof.GateUpResult.lean ====
/-
  The gate and up projections: the codes and the scales that the kernel leaves are the reference's, at the extended reals.
-/
module

public import proofs.«01_k».proof.Defs
public import proofs.«01_k».proof.Proof.GateUpValue
public import proofs.«01_k».proof.Proof.Gen.GateUp.Frame
public import Idealize.ShloMosaic.Lib.Pointwise
public import Idealize.ShloMosaic.Lib.StableHlo.Run
public import Idealize.ShloMosaic.Lib.Tactic
public import Idealize.ShloMosaic.Adequacy
public import Idealize.ShloMosaic.Init

@[expose] public section

set_option maxRecDepth 16384

noncomputable section

open Idealize.ShloMosaic Idealize.ShloMosaic.TcCoe Idealize.SL.Sem

namespace Cert.GateUpIdeal.Hand

open Cert.GateUpIdeal Cert.GateUpIdeal.Gen

section Reads

variable {F : FTy → Type} [FloatOps F]
variable (m : (ℓ : Loc nD τ sig) → Buf (Elt F) ℓ)

/-- The index maps, decided over the grid: the row scales' block is the whole array, the weights' and the column scales' block of
    point `t` is the `t`-th block of columns. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 3) = 0
    ∧ win0_2.index t (1 : Fin 3) = 0 ∧ win0_2.index t (2 : Fin 3) = t.val ∧ win0_3.index t (0 : Fin 2) = 0
    ∧ win0_3.index t (1 : Fin 2) = t.val :=
  (by decide +kernel : ∀ t : Fin grid0.N, _)

/-- The codes' block is the whole array. -/
theorem iblk0_apply (c : Dev nD) (t : Fin cfg0.N) (r : Fin 640) (k : Fin 4096) :
    iblk m c 0 t (ix2 r k) = m ((c : Thread nD τ).loc main_arg0) (ix2 r k) := by
  obtain ⟨e0, e0', e1, e1', e2, e2', e2'', e3, e3'⟩ := idx_facts t
  rw [← V_main_arg0 m c]
  show V m c main_arg0 (((cfg0.win 0).blk t).view.emb _) = V m c main_arg0 _
  congr 1
  funext a; apply Fin.ext
  match a with
  | ⟨0, _⟩ => show win0_0.index t (0 : Fin 2) * 640 + 1 * r.val = r.val; omega
  | ⟨1, _⟩ => show win0_0.index t (1 : Fin 2) * 4096 + 1 * k.val = k.val; omega

/-- The row scales' block is the whole array. -/
theorem iblk1_apply (c : Dev nD) (t : Fin cfg0.N) (r : Fin 640) (l : Fin 128) :
    iblk m c 1 t (ix2 r l) = V m c main_v1 (ix2 r l) := by
  obtain ⟨e0, e0', e1, e1', e2, e2', e2'', e3, e3'⟩ := idx_facts t
  show V m c main_v1 (((cfg0.win 1).blk t).view.emb _) = V m c main_v1 _
  congr 1
  funext a; apply Fin.ext
  match a with
  | ⟨0, _⟩ => show win0_1.index t (0 : Fin 2) * 640 + 1 * r.val = r.val; omega
  | ⟨1, _⟩ => show win0_1.index t (1 : Fin 2) * 128 + 1 * l.val = l.val; omega

/-- The two weights' block at point `t`: their columns from `512·t`. -/
theorem iblk2_apply (c : Dev nD) (t : Fin cfg0.N) (p : Fin 2) (k : Fin 4096) (j : Fin 512) (J : Fin 6144) (hJ : J.val = 512 * t.val + j.val) :
    iblk m c 2 t (ix3 p k j) = V m c main_v2 (ix3 p k J) := by
  obtain ⟨e0, e0', e1, e1', e2, e2', e2'', e3, e3'⟩ := idx_facts t
  show V m c main_v2 (((cfg0.win 2).blk t).view.emb _) = V m c main_v2 _
  congr 1
  funext a; apply Fin.ext
  match a with
  | ⟨0, _⟩ => show win0_2.index t (0 : Fin 3) * 2 + 1 * p.val = p.val; omega
  | ⟨1, _⟩ => show win0_2.index t (1 : Fin 3) * 4096 + 1 * k.val = k.val; omega
  | ⟨2, _⟩ => show win0_2.index t (2 : Fin 3) * 512 + 1 * j.val = J.val; omega

/-- The column scales' block at point `t`: the entries from `512·t`. -/
theorem iblk3_apply (c : Dev nD) (t : Fin cfg0.N) (p : Fin 2) (j : Fin 512) (J : Fin 6144) (hJ : J.val = 512 * t.val + j.val) :
    iblk m c 3 t (ix2 p j) = m ((c : Thread nD τ).loc main_arg3) (ix2 p J) := by
  obtain ⟨e0, e0', e1, e1', e2, e2', e2'', e3, e3'⟩ := idx_facts t
  rw [← V_main_arg3 m c]
  show V m c main_arg3 (((cfg0.win 3).blk t).view.emb _) = V m c main_arg3 _
  congr 1
  funext a; apply Fin.ext
  match a with
  | ⟨0, _⟩ => show win0_3.index t (0 : Fin 2) * 2 + 1 * p.val = p.val; omega
  | ⟨1, _⟩ => show win0_3.index t (1 : Fin 2) * 512 + 1 * j.val = J.val; omega

/-- The scale rows as the region finds them: each row's scale, repeated along the row. -/
theorem V_rows (c : Dev nD) : V m c main_v1 = broadcastInDim S640x128 ![0, 1] bcast_S640x1_S640x128_0_1 (shapeCast S640x1 (m ((c : Thread nD τ).loc main_arg1)) shapeCasts_S20x32_S640x1) := by
  unfold_abbrev_sides
  after_results
  rfl

/-- The weights as the region finds them: the gate's plane before the up projection's. -/
theorem V_planes (c : Dev nD) : V m c main_v2 = transpose S2x4096x6144 [1, 0, 2] (m ((c : Thread nD τ).loc main_arg2)) transposes_S4096x2x6144_S2x4096x6144_1_0_2 := by
  unfold_abbrev_sides
  after_results

/-- A 20×32 table of row scales, as one column repeated along the rows, read at row `r`. -/
theorem rows_apply (x : Vec F S20x32 .f32) (r : Fin 640) (l : Fin 128) :
    broadcastInDim S640x128 ![0, 1] bcast_S640x1_S640x128_0_1 (shapeCast S640x1 x shapeCasts_S20x32_S640x1) (ix2 r l)
      = x (ix2 (⟨r.val / 32, by omega⟩ : Fin 20) (⟨r.val % 32, by omega⟩ : Fin 32)) := by
  pointwise

/-- The planes read at an entry. -/
theorem planes_apply (x : Vec F S4096x2x6144 .i8) (p : Fin 2) (k : Fin 4096) (j : Fin 6144) :
    transpose S2x4096x6144 [1, 0, 2] x transposes_S4096x2x6144_S2x4096x6144_1_0_2 (ix3 p k j) = x (ix3 k p j) := by
  pointwise

/-- The codes as the scratch keeps them, converted. -/
theorem xb_apply (c : Dev nD) (r : Fin 640) (k : Fin 4096) :
    xb m c (ix2 r k) = FloatOps.sitofp .bf16 (m ((c : Thread nD τ).loc main_arg0) (ix2 r k)) := by
  have e : ∀ v : Vec F S640x4096 .i8, k0_pay6 v (ix2 r k) = FloatOps.sitofp .bf16 (v (ix2 r k)) := fun v => by
    unfold k0_pay6
    pointwise
  unfold xb
  rw [e, iblk0_apply]

end Reads

section AtIdeal

variable (mi : (ℓ : Loc nD τ sig) → Buf (Elt Ideal) ℓ)

/-- The reference's whole intermediate array, at the kernel's arguments. -/
abbrev wholeH (c : Dev nD) : FVec Ideal GateUpRefIdeal.S640x6144 .f32 :=
  GateUpRefIdeal.Gen.k0_pay3 (F := Ideal) (mi ((c : Thread nD τ).loc main_arg0)) (mi ((c : Thread nD τ).loc main_arg1))
    (mi ((c : Thread nD τ).loc main_arg2)) (mi ((c : Thread nD τ).loc main_arg3))

/-- Each block of columns of the intermediate array is that block of columns of the whole. -/
theorem hfull_apply (c : Dev nD) (r : Fin 640) (J : Fin 6144) : hfull mi c (ix2 r J) = wholeH mi c (ix2 r J) := by
  have hN : cfg0.N = 12 := N_0
  have hlt : J.val / 512 < cfg0.N := by have := J.isLt; omega
  have hJ : J.val = 512 * (J.val / 512) + J.val % 512 := (Nat.div_add_mod _ _).symm
  have hp : ∀ p : Fin 2, proj (fun k => xb mi c (ix2 r k))
      (fun k => FloatOps.sitofp (F := Ideal) .bf16 (iblk mi c 2 ⟨J.val / 512, hlt⟩ (ix3 p k (⟨J.val % 512, Nat.mod_lt _ (by decide)⟩ : Fin 512))))
      (iblk mi c 1 ⟨J.val / 512, hlt⟩ (ix2 r (0 : Fin 128))) (iblk mi c 3 ⟨J.val / 512, hlt⟩ (ix2 p (⟨J.val % 512, Nat.mod_lt _ (by decide)⟩ : Fin 512)))
      = proj (fun k => FloatOps.sitofp (F := Ideal) .bf16 (mi ((c : Thread nD τ).loc main_arg0) (ix2 r k)))
        (fun k => FloatOps.sitofp (F := Ideal) .bf16 (mi ((c : Thread nD τ).loc main_arg2) (ix3 k p J)))
        (mi ((c : Thread nD τ).loc main_arg1) (ix2 (⟨r.val / 32, by omega⟩ : Fin 20) (⟨r.val % 32, by omega⟩ : Fin 32)))
        (mi ((c : Thread nD τ).loc main_arg3) (ix2 p J)) := fun p => by
    have hx : (fun k => xb mi c (ix2 r k)) = fun k => FloatOps.sitofp (F := Ideal) .bf16 (mi ((c : Thread nD τ).loc main_arg0) (ix2 r k)) :=
      funext fun k => xb_apply mi c r k
    have hw : ∀ k : Fin 4096, iblk mi c 2 ⟨J.val / 512, hlt⟩ (ix3 p k (⟨J.val % 512, Nat.mod_lt _ (by decide)⟩ : Fin 512))
        = mi ((c : Thread nD τ).loc main_arg2) (ix3 k p J) := fun k => by
      rw [iblk2_apply mi c ⟨J.val / 512, hlt⟩ p k _ J hJ, V_planes]
      exact planes_apply _ p k J
    have hs : iblk mi c 1 ⟨J.val / 512, hlt⟩ (ix2 r (0 : Fin 128))
        = mi ((c : Thread nD τ).loc main_arg1) (ix2 (⟨r.val / 32, by omega⟩ : Fin 20) (⟨r.val % 32, by omega⟩ : Fin 32)) := by
      rw [iblk1_apply, V_rows]
      exact rows_apply _ r 0
    have ht : iblk mi c 3 ⟨J.val / 512, hlt⟩ (ix2 p (⟨J.val % 512, Nat.mod_lt _ (by decide)⟩ : Fin 512))
        = mi ((c : Thread nD τ).loc main_arg3) (ix2 p J) := iblk3_apply mi c ⟨J.val / 512, hlt⟩ p _ J hJ
    rw [hx, hs, ht]
    exact congrArg (fun w => proj _ w _ _) (funext fun k => congrArg _ (hw k))
  refine Eq.trans ?_ (whole_apply _ _ _ _ r J).symm
  refine (gated_apply _ _ _ _ r _).trans ?_
  exact congrArg₂ act (hp 0) (hp 1)

/-- A row of the block of 32 rows that a trip reads is that row of the whole. -/
theorem rowsOf_apply (c : Dev nD) (i : Fin 20) (a : Fin 32) (R : Fin 640) (hR : R.val = 32 * i.val + a.val) (j : Fin 6144) :
    rowsOf (hfull mi c) i (ix2 a j) = wholeH mi c (ix2 R j) := by
  rw [← hfull_apply mi c R j]
  exact congrArg (fun q : Fin 640 => hfull mi c (ix2 q j)) (Fin.ext hR.symm)

/-- A trip's scale of a row is the reference's scale of that row. -/
theorem scale_eq (c : Dev nD) (i : Fin 20) (a : Fin 32) (R : Fin 640) (hR : R.val = 32 * i.val + a.val) :
    k0_pay2 (rowsOf (hfull mi c) i) (ix2 a (0 : Fin 1)) = wholeScale (wholeH mi c) (ix1 R) := by
  rw [pay2_apply, wholeScale_apply]
  exact congrArg rowScale (funext fun j => rowsOf_apply mi c i a R hR j)

/-- **The codes are the reference's**: dividing a row by its scale is multiplying it by the scale's inverse. -/
theorem codes_result (c : Dev nD) : codesOf (hfull mi c) = GateUpRefIdeal.Value.G4 (F := Ideal) (mi ((c : Thread nD τ).loc main_arg0))
    (mi ((c : Thread nD τ).loc main_arg1)) (mi ((c : Thread nD τ).loc main_arg2)) (mi ((c : Thread nD τ).loc main_arg3)) := by
  funext i
  obtain ⟨r, J, rfl⟩ : ∃ (r : Fin 640) (J : Fin 6144), i = ix2 r J := ⟨i 0, i 1, eq_ix2 i⟩
  have hR : r.val = 32 * (r.val / 32) + r.val % 32 := (Nat.div_add_mod _ _).symm
  have hq : r.val / 32 < 20 := by have := r.isLt; omega
  have ha : r.val % 32 < 32 := Nat.mod_lt _ (by decide)
  show k0_pay3 (rowsOf (hfull mi c) (⟨r.val / 32, hq⟩ : Fin 20)) (ix2 (⟨r.val % 32, ha⟩ : Fin 32) J) = _
  refine (pay3_apply _ _ _).trans ?_
  refine Eq.trans ?_ (congrFun (codes_eq _ _ _ _) (ix2 r J)).symm
  rw [wholeCodes_apply, pay4_eq, scale_eq mi c ⟨r.val / 32, hq⟩ ⟨r.val % 32, ha⟩ r hR,
    mul_inv _ _ (by rw [wholeScale_apply]; exact rowScale_ne _), rowsOf_apply mi c ⟨r.val / 32, hq⟩ ⟨r.val % 32, ha⟩ r hR J]

/-- **The scales are the reference's.** -/
theorem scales_result (c : Dev nD) : scalesOf (hfull mi c) = GateUpRefIdeal.Value.G5 (F := Ideal) (mi ((c : Thread nD τ).loc main_arg0))
    (mi ((c : Thread nD τ).loc main_arg1)) (mi ((c : Thread nD τ).loc main_arg2)) (mi ((c : Thread nD τ).loc main_arg3)) := by
  funext y
  obtain ⟨i, j, rfl⟩ : ∃ (i : Fin 20) (j : Fin 32), y = ix2 i j := ⟨y 0, y 1, eq_ix2 y⟩
  refine (pay5_apply _ j).trans ?_
  refine Eq.trans ?_ (refScales_apply _ i j).symm
  rw [pay4_eq]
  exact scale_eq mi c i j _ rfl

end AtIdeal

end Cert.GateUpIdeal.Hand

namespace Cert.Proof

/-- **The gate and up projections' kernel and reference end with the same codes and scales**, at the extended reals. -/
theorem algebraic_gateup : Cert.algebraic_GateUpIdeal_GateUpRefIdeal := by
  intro m ρ m' ρ' _ hagree
  refine ⟨fun c => Cert.GateUpIdeal.Hand.codesOf (Cert.GateUpIdeal.Hand.hfull m c),
    fun c => Cert.GateUpIdeal.Hand.scalesOf (Cert.GateUpIdeal.Hand.hfull m c), ?_, ?_⟩
  · refine (θ_run Cert.GateUpIdeal.defs _ _).mono (fun r h c => ?_) (Cert.GateUpIdeal.Hand.run_main_quiescent (F := Ideal) m ρ)
    exact ⟨(Cert.GateUpIdeal.Hand.results m r h.1 c).1, (Cert.GateUpIdeal.Hand.results m r h.1 c).2, Cert.GateUpIdeal.Hand.args_kept m r h.1 c⟩
  · refine (θ_run Cert.GateUpRefIdeal.defs _ _).mono (fun _ h c => ?_) (Cert.GateUpRefIdeal.Value.run (F := Ideal) m' ρ')
    obtain ⟨h0, h1, h2, h3⟩ := hagree c
    refine ⟨(h c).1.trans ?_, (h c).2.1.trans ?_, (h c).2.2⟩
    · refine Eq.trans ?_ (Cert.GateUpIdeal.Hand.codes_result m c).symm
      exact congr (congr (congr (congrArg _ h0) h1) h2) h3
    · refine Eq.trans ?_ (Cert.GateUpIdeal.Hand.scales_result m c).symm
      exact congr (congr (congr (congrArg _ h0) h1) h2) h3

section Kit

variable {F : FTy → Type} [FloatOps F]

/-- The machine's program runs the same bodies as the idealized one. -/
theorem gateup_bodies : (Cert.GateUp.defs₀ (F := F)) = Cert.GateUpIdeal.defs₀ (F := F) := by
  unfold Cert.GateUp.defs₀ Cert.GateUpIdeal.defs₀
  refine congrArg Defs.onTc (funext fun l => funext fun a => ?_)
  match l, a with
  | ⟨0, _⟩, (t, s) => rfl

theorem gateup_defs : (Cert.GateUp.defs (F := F)) = Cert.GateUpIdeal.defs (F := F) :=
  congrArg (Pipeline.defs (Cert.GateUp.pcfgs (F := F))) gateup_bodies

end Kit

/-- **Every run of the machine's program ends with its arguments unchanged and nothing in flight.** -/
theorem frame_gateup : Cert.quiescent_GateUp := fun m ρ _ => by
  rw [gateup_defs]
  exact Cert.GateUpIdeal.Hand.frame (F := Bits) m ρ

end Cert.Proof

end
-- ==== Proof.OProjRun.lean ====
/-
  The output projection's kernel body, run on any whole buffers: at the first point, at a middle point and at the last point of the
  grid, with what each buffer holds afterwards.
-/
module

public import proofs.«01_k».proof.Defs
public import proofs.«01_k».proof.Proof.Gen.OProjIdeal.Frame
public import proofs.«01_k».proof.Proof.Gen.OProjIdeal.Loops
public import proofs.«01_k».proof.Proof.GateUpResult
public import Idealize.ShloMosaic.Lib.WritesUnit
public import Idealize.ShloMosaic.Lib.VecWindow
public import Idealize.ShloMosaic.Lib.Pipeline.ValueKit.Tiles

@[expose] public section

set_option maxRecDepth 16384

noncomputable section

namespace Cert.OProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OProjIdeal Cert.OProjIdeal.Gen
open Cert.GateUpIdeal.Hand (hz2 read_rows)

variable {F : FTy → Type} [FloatOps F]

local notation "𝕄" => MT nD τ sig Unit (Elt F) ℕ (UR sig nD τ) ℕ

/-- The first point's condition, on the grid coordinates. -/
abbrev first (i : grid0.Coords) : Prop := (Scalar.cmpi .ne (Scalar.extui (Scalar.cmpi .eq (BitVec.ofNat 32 (i 0).val) 0#32)) 0#32) = 1#1

/-- The block of a point: the product of the codes (`x11`) and the weights, rescaled and added to the residual. -/
def added (x11 : Vec F S640x2048 .bf16) (x2 : Vec F S640x128 .f32) (x3 : Vec F S2048x512 .i8) (x4 : Vec F S1x512 .f32) (x5 : Vec F S640x512 .bf16) : FVec F S640x512 .f32 :=
  k0_pay2 x11 x3 x5 (View.ld x2 (Rect.unit (s := S640x128) ![0, 0] S640x1.size inb_S640x128_S640x1_0_0)) x4

/-- Point `i`'s block of columns of `x7` replaced by `w`. -/
def put (x7 : Vec F S640x4096 .f32) (i : grid0.Coords) (w : FVec F S640x512 .f32) : Vec F S640x4096 .f32 := fun y =>
  if h : ∀ a, (![0, 512 * (i 0).val] : Fin 2 → ℕ) a ≤ (y a).val ∧ (y a).val < (![0, 512 * (i 0).val] : Fin 2 → ℕ) a + S640x512.size a then
    w (Rect.unitLocal (s := S640x4096) (off := ![0, 512 * (i 0).val]) (size := S640x512.size) y h)
  else x7 y

/-- A store of point `i`'s block of columns leaves `put`. -/
theorem read_put (arg7 : Memref sig .tc .vmem S640x4096 .f32) (harg7 : arg7.IsWhole) (x7 : Vec F S640x4096 .f32) (i : grid0.Coords) (w : FVec F S640x512 .f32) :
    arg7.view.read (Elt F) (arg7.view.writes (Elt F) (harg7.unread x7) [⟨Rect.unit (s := S640x4096) (k0_off1 i) S640x512.size (k0_off1_inb i), w⟩]) = put x7 i w := by
  funext y
  rw [View.read_writes_cons_unit (s := S640x4096) arg7.view (harg7.unread x7) (k0_off1_inb i) w [] y (k0_off1_eq i)]
  unfold put
  rw [View.writes_nil, harg7.read_unread]

/-- The rows of trip `k` of the loop. -/
def rowsOf (X : Vec F S640x4096 .f32) (k : Fin 20) : Vec F S32x4096 .f32 := fun x =>
  X (ix2 (⟨32 * k.val + (x 0).val, by have := k.isLt; have : (x 0).val < 32 := (x 0).isLt; omega⟩ : Fin 640) (x 1))

/-- What the loop leaves of the codes: each row read from its own trip. -/
def codesOf (X : Vec F S640x4096 .f32) (g : Vec F S1x4096 .f32) : Vec F S640x4096 .i8 := fun y =>
  k0_pay7 (rowsOf X (⟨(y 0).val / 32, by have : (y 0).val < 640 := (y 0).isLt; omega⟩ : Fin 20)) g (ix2 (⟨(y 0).val % 32, Nat.mod_lt _ (by decide)⟩ : Fin 32) (y 1))

/-- What the loop leaves of the scales repeated along the lanes. -/
def repOf (X : Vec F S640x4096 .f32) (g : Vec F S1x4096 .f32) : Vec F S640x128 .f32 := fun y =>
  k0_pay3 (k0_pay6 (rowsOf X (⟨(y 0).val / 32, by have : (y 0).val < 640 := (y 0).isLt; omega⟩ : Fin 20)) g) (ix2 (⟨(y 0).val % 32, Nat.mod_lt _ (by decide)⟩ : Fin 32) (y 1))

/-- What the loop leaves of the scales, one row of 32 to a trip. -/
def scalesOf (X : Vec F S640x4096 .f32) (g : Vec F S1x4096 .f32) : Vec F S20x32 .f32 := fun y =>
  k0_pay4 (k0_pay6 (rowsOf X (y 0)) g) (ix2 (0 : Fin 1) (y 1))

/-- A trip's number, below twenty. -/
def tr (k : Fin k0_t1_loop.trips) : Fin 20 := ⟨k.val, Nat.lt_of_lt_of_le k.isLt k0_t1_abs.2.1⟩

/-- The stores of one trip: one block of each output, computed from the trip's rows. -/
theorem trip_pieces (𝒱 : Variants) (c : Dev nD) (bd : Option 𝒱.V) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (h2 : k0_cond2 i = 1#1) (X6 : BufTy.Contents (Elt F) arg6.view.ty) (X7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 h2 X6 X7 k
      = ([⟨Rect.unit (s := S640x4096) (k0_off2 k) S32x4096.size (k0_off2_inb i k h2), k0_pay7 (rowsOf (arg7.view.read (Elt F) X7) (tr k)) (arg6.view.read (Elt F) X6)⟩],
         [⟨Rect.unit (s := S20x32) (k0_off4 k) S1x32.size (k0_off4_inb i k h2), k0_pay4 (k0_pay6 (rowsOf (arg7.view.read (Elt F) X7) (tr k)) (arg6.view.read (Elt F) X6))⟩],
         [⟨Rect.unit (s := S640x128) (k0_off3 k) S32x128.size (k0_off3_inb i k h2), k0_pay3 (k0_pay6 (rowsOf (arg7.view.read (Elt F) X7) (tr k)) (arg6.view.read (Elt F) X6))⟩]) := by
  have e : View.readAt (Elt F) arg7.view (Rect.unit (s := S640x4096) (k0_off2 k) S32x4096.size (k0_off2_inb i k h2)).toLoadRect X7 = rowsOf (arg7.view.read (Elt F) X7) (tr k) := by
    rw [View.readAt_eq_ld]
    funext x
    exact View.ld_unit_apply_of _ _ _ _ x _ (fun a => by
      refine Eq.trans ?_ (congrArg (· + (x a).val) (congrFun (k0_off2_eq k) a).symm)
      match a with
      | ⟨0, _⟩ => rfl
      | ⟨1, _⟩ => exact (Nat.zero_add _).symm)
  have e6 : View.readAt (Elt F) arg6.view (Rect.unit (s := S1x4096) ![0, 0] S1x4096.size inb_S1x4096_S1x4096_0_0).toLoadRect X6 = arg6.view.read (Elt F) X6 := by
    rw [View.readAt_eq_ld, View.ld_unit_zero (S := S1x4096) hz2]
  rw [← e, ← e6]
  unfold tripL_k0_t1 trip_k0_t1
  rfl

/-- After `k` trips the rows of the trips made hold what the loop leaves. -/
theorem pb_read (𝒱 : Variants) (c : Dev nD) (bd : Option 𝒱.V) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (h2 : k0_cond2 i = 1#1) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (k : ℕ) (hk : k ≤ 20) :
    (∀ y : S640x4096.Idx, (y 0).val < 32 * k → arg8.view.read (Elt F) (arg8.view.writes (Elt F) f8 (pb_k0_t1 (F := F) 𝒱 c bd i arg1 harg1 arg2 harg2 arg3 harg3 arg4 harg4 arg5 harg5 arg6 harg6 arg7 harg7 arg8 harg8 arg9 harg9 arg10 harg10 arg11 harg11 h2 X6 X7 k).1) y = codesOf (arg7.view.read (Elt F) X7) (arg6.view.read (Elt F) X6) y)
    ∧ (∀ y : S20x32.Idx, (y 0).val < k → arg9.view.read (Elt F) (arg9.view.writes (Elt F) f9 (pb_k0_t1 (F := F) 𝒱 c bd i arg1 harg1 arg2 harg2 arg3 harg3 arg4 harg4 arg5 harg5 arg6 harg6 arg7 harg7 arg8 harg8 arg9 harg9 arg10 harg10 arg11 harg11 h2 X6 X7 k).2.1) y = scalesOf (arg7.view.read (Elt F) X7) (arg6.view.read (Elt F) X6) y)
    ∧ (∀ y : S640x128.Idx, (y 0).val < 32 * k → arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 h2 X6 X7 k).2.2) y = repOf (arg7.view.read (Elt F) X7) (arg6.view.read (Elt F) X6) y) := by
  induction k with
  | zero => exact ⟨fun y hy => absurd hy (by omega), fun y hy => absurd hy (by omega), fun y hy => absurd hy (by omega)⟩
  | succ k ih =>
    obtain ⟨i8, i9, i10⟩ := ih (by omega)
    have ht : k0_t1_loop.trips = 20 := by decide +kernel
    have hs := pb_k0_t1_succ (F := F) 𝒱 c bd i arg1 harg1 arg2 harg2 arg3 harg3 arg4 harg4 arg5 harg5 arg6 harg6 arg7 harg7 arg8 harg8 arg9 harg9 arg10 harg10 arg11 harg11 h2 X6 X7 ⟨k, by omega⟩
    rw [trip_pieces (F := F) 𝒱 c bd i arg1 harg1 arg2 harg2 arg3 harg3 arg4 harg4 arg5 harg5 arg6 harg6 arg7 harg7 arg8 harg8 arg9 harg9 arg10 harg10 arg11 harg11 h2 X6 X7 ⟨k, by omega⟩] at hs
    dsimp only at hs
    rw [hs]
    refine ⟨?_, ?_, ?_⟩
    · exact read_rows arg8 f8 k (by omega) (k0_off2_inb i _ h2) (k0_off2_eq ⟨k, by omega⟩) _ _ _ i8 (fun y hy => by
        unfold codesOf
        congr 2
        exact Fin.ext (show k = (y 0).val / 32 by omega))
    · intro y hy
      by_cases h : (y 0).val < k
      · refine (View.read_writes_cons_unit_of_not_mem arg9.view f9 (k0_off4_inb i ⟨k, by omega⟩ h2) _ _ y (k0_off4_eq ⟨k, by omega⟩) (0 : Fin 2) (by left; exact h)).trans (i9 y h)
      · have e : (y 0).val = k := by omega
        refine (View.read_writes_cons_unit_of_mem arg9.view f9 (k0_off4_inb i ⟨k, by omega⟩ h2) _ _ y (ix2 (0 : Fin 1) (y 1)) (k0_off4_eq ⟨k, by omega⟩) (fun b => ?_)).trans ?_
        · match b with
          | ⟨0, _⟩ => exact e
          | ⟨1, _⟩ => exact (Nat.zero_add _).symm
        · unfold scalesOf
          have ek : tr (⟨k, by omega⟩ : Fin k0_t1_loop.trips) = y 0 := Fin.ext e.symm
          rw [ek]
    · exact read_rows arg10 f10 k (by omega) (k0_off3_inb i _ h2) (k0_off3_eq ⟨k, by omega⟩) _ _ _ i10 (fun y hy => by
        unfold repOf
        have ek : tr (⟨k, by omega⟩ : Fin k0_t1_loop.trips) = (⟨(y 0).val / 32, by have : (y 0).val < 640 := (y 0).isLt; omega⟩ : Fin 20) := Fin.ext (show k = (y 0).val / 32 by omega)
        rw [ek])

/-- The loop makes twenty trips. -/
theorem trips20 : Scf.trips k0_t1_loop.lb k0_t1_loop.ub k0_t1_loop.st = 20 := by decide +kernel

/-- After all the trips the three outputs hold what the loop leaves of the array `X` and the gains `g`. -/
theorem pb_all (𝒱 : Variants) (c : Dev nD) (bd : Option 𝒱.V) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (h2 : k0_cond2 i = 1#1) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty)
    (X : Vec F S640x4096 .f32) (hX : arg7.view.read (Elt F) X7 = X) (g : Vec F S1x4096 .f32) (hg : arg6.view.read (Elt F) X6 = g) (n : ℕ) (hn : n = 20) :
    arg8.view.read (Elt F) (arg8.view.writes (Elt F) f8 (pb_k0_t1 (F := F) 𝒱 c bd i arg1 harg1 arg2 harg2 arg3 harg3 arg4 harg4 arg5 harg5 arg6 harg6 arg7 harg7 arg8 harg8 arg9 harg9 arg10 harg10 arg11 harg11 h2 X6 X7 n).1) = codesOf X g
    ∧ arg9.view.read (Elt F) (arg9.view.writes (Elt F) f9 (pb_k0_t1 (F := F) 𝒱 c bd i arg1 harg1 arg2 harg2 arg3 harg3 arg4 harg4 arg5 harg5 arg6 harg6 arg7 harg7 arg8 harg8 arg9 harg9 arg10 harg10 arg11 harg11 h2 X6 X7 n).2.1) = scalesOf X g
    ∧ arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 h2 X6 X7 n).2.2) = repOf X g := by
  subst hn; subst hX; subst hg
  obtain ⟨h8, h9, h10⟩ := pb_read (F := F) 𝒱 c bd i arg1 harg1 arg2 harg2 arg3 harg3 arg4 harg4 arg5 harg5 arg6 harg6 arg7 harg7 arg8 harg8 arg9 harg9 arg10 harg10 arg11 harg11 h2 X6 X7 f8 f9 f10 20 le_rfl
  exact ⟨funext fun y => h8 y (y 0).isLt, funext fun y => h9 y (y 0).isLt, funext fun y => h10 y (y 0).isLt⟩

-- (the run's proof term is large)
set_option maxHeartbeats 4000000 in
/-- The body at a first point that is not the last. -/
theorem run_first (c : Dev nD) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (hc1 : first i) (hc2 : ¬ k0_cond2 i = 1#1)
    (x1 : Vec F S640x2048 .i8) (x2 : Vec F S640x128 .f32) (x3 : Vec F S2048x512 .i8) (x4 : Vec F S1x512 .f32) (x5 : Vec F S640x512 .bf16) (x11 : Vec F S640x2048 .bf16) (x7 : Vec F S640x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg7 fullShare x7
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare (k0_pay1 x1) ∗ owns (c : Thread nD τ) arg7 fullShare (put x7 i (added (k0_pay1 x1) x2 x3 x4 x5))) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  simp only [cc0_oproj_eq_skeleton]; unfold cc0_oproj_skel
  unfold owns
  iintro ⟨⟨%f1, %hf1, H1⟩, ⟨%f2, %hf2, H2⟩, ⟨%f3, %hf3, H3⟩, ⟨%f4, %hf4, H4⟩, ⟨%f5, %hf5, H5⟩, ⟨%f11, %hf11, H11⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg11.eq_unread hf11
  obtain rfl := harg7.eq_unread hf7
  sl_exec (disch := first | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr
    swap; · iexact H11
    ipureintro
    sl_unfold_words
    rw [View.read_writes_full arg11.view, View.readAt_eq_ld, harg1.read_unread, View.ld_unit_zero (S := S640x2048) hz2]
  iexists _; isplitr
  swap; · iexact H7
  ipureintro
  sl_unfold_words
  simp only [View.readCov_unit_zero (S := S640x2048) _ hz2, View.readAt_eq_ld, harg1.read_unread, harg2.read_unread, harg3.read_unread, harg4.read_unread, harg5.read_unread, View.ld_unit_zero (S := S640x2048) hz2, View.ld_unit_zero (S := S2048x512) hz2, View.ld_unit_zero (S := S1x512) hz2, View.ld_unit_zero (S := S640x512) hz2]
  exact read_put arg7 harg7 x7 i _

-- (the run's proof term is large)
set_option maxHeartbeats 4000000 in
/-- The body at a point that is neither the first nor the last. -/
theorem run_mid (c : Dev nD) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (hc1 : ¬ first i) (hc2 : ¬ k0_cond2 i = 1#1)
    (x1 : Vec F S640x2048 .i8) (x2 : Vec F S640x128 .f32) (x3 : Vec F S2048x512 .i8) (x4 : Vec F S1x512 .f32) (x5 : Vec F S640x512 .bf16) (x11 : Vec F S640x2048 .bf16) (x7 : Vec F S640x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg7 fullShare x7
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg7 fullShare (put x7 i (added x11 x2 x3 x4 x5))) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  simp only [cc0_oproj_eq_skeleton]; unfold cc0_oproj_skel
  unfold owns
  iintro ⟨⟨%f1, %hf1, H1⟩, ⟨%f2, %hf2, H2⟩, ⟨%f3, %hf3, H3⟩, ⟨%f4, %hf4, H4⟩, ⟨%f5, %hf5, H5⟩, ⟨%f11, %hf11, H11⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg11.eq_unread hf11
  obtain rfl := harg7.eq_unread hf7
  sl_exec (disch := first | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  iexists _; isplitr
  swap; · iexact H7
  ipureintro
  sl_unfold_words
  simp only [View.readAt_eq_ld, harg11.read_unread, harg2.read_unread, harg3.read_unread, harg4.read_unread, harg5.read_unread, View.ld_unit_zero (S := S640x2048) hz2, View.ld_unit_zero (S := S2048x512) hz2, View.ld_unit_zero (S := S1x512) hz2, View.ld_unit_zero (S := S640x512) hz2]
  exact read_put arg7 harg7 x7 i _

-- (the run's proof term is large)
set_option maxHeartbeats 4000000 in
/-- The body at a last point that is not the first. -/
theorem run_last (c : Dev nD) (i : grid0.Coords) (arg1 : Memref sig .tc .vmem S640x2048 .i8) (harg1 : arg1.IsWhole) (arg2 : Memref sig .tc .vmem S640x128 .f32) (harg2 : arg2.IsWhole) (arg3 : Memref sig .tc .vmem S2048x512 .i8) (harg3 : arg3.IsWhole) (arg4 : Memref sig .tc .vmem S1x512 .f32) (harg4 : arg4.IsWhole) (arg5 : Memref sig .tc .vmem S640x512 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .i8) (harg8 : arg8.IsWhole) (arg9 : Memref sig .tc .vmem S20x32 .f32) (harg9 : arg9.IsWhole) (arg10 : Memref sig .tc .vmem S640x128 .f32) (harg10 : arg10.IsWhole) (arg11 : Memref sig .tc .vmem S640x2048 .bf16) (harg11 : arg11.IsWhole)
    (hc1 : ¬ first i) (hc2 : k0_cond2 i = 1#1)
    (x1 : Vec F S640x2048 .i8) (x2 : Vec F S640x128 .f32) (x3 : Vec F S2048x512 .i8) (x4 : Vec F S1x512 .f32) (x5 : Vec F S640x512 .bf16) (x11 : Vec F S640x2048 .bf16) (x7 : Vec F S640x4096 .f32) (x6 : Vec F S1x4096 .f32) (x8 : Vec F S640x4096 .i8) (x9 : Vec F S20x32 .f32) (x10 : Vec F S640x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg7 fullShare x7 ∗ owns (c : Thread nD τ) arg6 fullShare x6 ∗ owns (c : Thread nD τ) arg8 fullShare x8 ∗ owns (c : Thread nD τ) arg9 fullShare x9 ∗ owns (c : Thread nD τ) arg10 fullShare x10
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg7 fullShare (put x7 i (added x11 x2 x3 x4 x5)) ∗ owns (c : Thread nD τ) arg6 fullShare x6 ∗ owns (c : Thread nD τ) arg8 fullShare (codesOf (put x7 i (added x11 x2 x3 x4 x5)) x6) ∗ owns (c : Thread nD τ) arg9 fullShare (scalesOf (put x7 i (added x11 x2 x3 x4 x5)) x6) ∗ owns (c : Thread nD τ) arg10 fullShare (repOf (put x7 i (added x11 x2 x3 x4 x5)) x6)) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  simp only [cc0_oproj_eq_skeleton]; unfold cc0_oproj_skel
  unfold owns
  iintro ⟨⟨%f1, %hf1, H1⟩, ⟨%f2, %hf2, H2⟩, ⟨%f3, %hf3, H3⟩, ⟨%f4, %hf4, H4⟩, ⟨%f5, %hf5, H5⟩, ⟨%f11, %hf11, H11⟩, ⟨%f7, %hf7, H7⟩, ⟨%f6, %hf6, H6⟩, ⟨%f8, %hf8, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg11.eq_unread hf11
  obtain rfl := harg7.eq_unread hf7
  obtain rfl := harg6.eq_unread hf6
  sl_exec (disch := first | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  have hX : arg7.view.read (Elt F) (arg7.view.writes (Elt F) (harg7.unread x7) [⟨Rect.unit (s := S640x4096) (k0_off1 i) S640x512.size (k0_off1_inb i), added x11 x2 x3 x4 x5⟩]) = put x7 i (added x11 x2 x3 x4 x5) := read_put arg7 harg7 x7 i _
  simp only [View.readAt_eq_ld, harg11.read_unread, harg2.read_unread, harg3.read_unread, harg4.read_unread, harg5.read_unread, View.ld_unit_zero (S := S640x2048) hz2, View.ld_unit_zero (S := S2048x512) hz2, View.ld_unit_zero (S := S1x512) hz2, View.ld_unit_zero (S := S640x512) hz2]
  isplitl [H7]
  · iexists _; isplitr
    swap; · iexact H7
    ipureintro
    exact hX
  isplitl [H6]
  · iexists _; isplitr; · ipureintro; exact harg6.read_unread _
    iexact H6
  isplitl [H8]
  · iexists _; isplitr
    swap; · iexact H8
    ipureintro
    exact (pb_all Variants.none c none i arg1 harg1 arg2 harg2 arg3 harg3 arg4 harg4 arg5 harg5 arg6 harg6 arg7 harg7 arg8 harg8 arg9 harg9 arg10 harg10 arg11 harg11 hc2 _ _ f8 f9 f10 _ hX _ (harg6.read_unread x6) _ trips20).1
  isplitl [H9]
  · iexists _; isplitr
    swap; · iexact H9
    ipureintro
    exact (pb_all Variants.none c none i arg1 harg1 arg2 harg2 arg3 harg3 arg4 harg4 arg5 harg5 arg6 harg6 arg7 harg7 arg8 harg8 arg9 harg9 arg10 harg10 arg11 harg11 hc2 _ _ f8 f9 f10 _ hX _ (harg6.read_unread x6) _ trips20).2.1
  iexists _; isplitr
  swap; · iexact H10
  ipureintro
  exact (pb_all Variants.none c none i arg1 harg1 arg2 harg2 arg3 harg3 arg4 harg4 arg5 harg5 arg6 harg6 arg7 harg7 arg8 harg8 arg9 harg9 arg10 harg10 arg11 harg11 hc2 _ _ f8 f9 f10 _ hX _ (harg6.read_unread x6) _ trips20).2.2

end Cert.OProjIdeal.Hand

end
-- ==== Proof.OProjFrame.lean ====
/-
  The output projection's run on its grid of eight points: what the carried buffers hold between points, the body's
  run at every point, the run of the whole program, and the frame it gives.
-/
module

public import proofs.«01_k».proof.Proof.OProjRun
public import Idealize.ShloMosaic.Lib.Pipeline.ArrRel

@[expose] public section

set_option maxRecDepth 16384

noncomputable section

namespace Cert.OProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window)
open Cert.OProjIdeal Cert.OProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' staging buffers at a point. -/
abbrev ms0_0 (t : Fin cfg0.N) : Memref sig .tc .vmem S640x2048 .i8 := win0_0.stage (cfg0.slots t 0)
abbrev ms0_1 (t : Fin cfg0.N) : Memref sig .tc .vmem S640x128 .f32 := win0_1.stage (cfg0.slots t 1)
abbrev ms0_2 (t : Fin cfg0.N) : Memref sig .tc .vmem S2048x512 .i8 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S640x512 .bf16 := win0_4.stage (cfg0.slots t 4)
abbrev ms0_5 (t : Fin cfg0.N) : Memref sig .tc .vmem S1x4096 .f32 := win0_5.stage (cfg0.slots t 5)
abbrev ms0_6 (t : Fin cfg0.N) : Memref sig .tc .vmem S640x4096 .f32 := win0_6.stage (cfg0.slots t 6)
abbrev ms0_7 (t : Fin cfg0.N) : Memref sig .tc .vmem S640x4096 .i8 := win0_7.stage (cfg0.slots t 7)
abbrev ms0_8 (t : Fin cfg0.N) : Memref sig .tc .vmem S20x32 .f32 := win0_8.stage (cfg0.slots t 8)
abbrev ms0_9 (t : Fin cfg0.N) : Memref sig .tc .vmem S640x128 .f32 := win0_9.stage (cfg0.slots t 9)
/-- The carried buffer: the widened codes. -/
abbrev scM0_0 : Memref sig .tc .vmem S640x2048 .bf16 := Memref.whole cc0_scratch0

/-- What the launch hands the run: the carried buffer at anything, the generator register at some state. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The grid coordinate of a point is its number. -/
theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The first point's condition holds at the first point only. -/
theorem first_iff : ∀ t : Fin cfg0.N, first (grid0.coords t) ↔ t.val = 0 :=
  (by decide +kernel : ∀ t : Fin grid0.N, first (grid0.coords t) ↔ t.val = 0)

/-- The last point's condition holds at the last point only. -/
theorem last_iff : ∀ t : Fin cfg0.N, k0_cond2 (grid0.coords t) = 1#1 ↔ t.val = 7 :=
  (by decide +kernel : ∀ t : Fin grid0.N, k0_cond2 (grid0.coords t) = 1#1 ↔ t.val = 7)

/-- The widened codes, as the first point leaves them. -/
def xb (c : Dev nD) : Vec F S640x2048 .bf16 := k0_pay1 (iblk m c 0 t0_0)

/-- The block of sums of point `t`. -/
def hcol (c : Dev nD) (t : Fin cfg0.N) : FVec F S640x512 .f32 := added (xb m c) (iblk m c 1 t) (iblk m c 2 t) (iblk m c 3 t) (iblk m c 4 t)

/-- All the sums: column `y 1` is computed at point `y 1 / 512`. -/
def hfull (c : Dev nD) : Vec F S640x4096 .f32 := fun y =>
  hcol m c (⟨(y 1).val / 512, by have : (y 1).val < 4096 := (y 1).isLt; rw [show cfg0.N = 8 from N_0]; omega⟩ : Fin cfg0.N)
    (ix2 (y 0) (⟨(y 1).val % 512, Nat.mod_lt _ (by decide)⟩ : Fin 512))

/-- The first `512 * n` columns hold the sums. -/
def Upto (c : Dev nD) (n : ℕ) (x : Vec F S640x4096 .f32) : Prop := ∀ y : S640x4096.Idx, (y 1).val < 512 * n → x y = hfull m c y

/-- Point `t` extends the columns computed by its own block. -/
theorem put_upto (c : Dev nD) (t : Fin cfg0.N) (x : Vec F S640x4096 .f32) (h : Upto m c t.val x) :
    Upto m c (t.val + 1) (put x (grid0.coords t) (hcol m c t)) := by
  intro y hy
  have ec := coord_val t
  unfold put
  by_cases hm : ∀ a, (![0, 512 * (grid0.coords t 0).val] : Fin 2 → ℕ) a ≤ (y a).val ∧ (y a).val < (![0, 512 * (grid0.coords t 0).val] : Fin 2 → ℕ) a + S640x512.size a
  · rw [dif_pos hm]
    have h1 : 512 * (grid0.coords t 0).val ≤ (y 1).val := (hm 1).1
    unfold hfull
    have et : (⟨(y 1).val / 512, by have : (y 1).val < 4096 := (y 1).isLt; rw [show cfg0.N = 8 from N_0]; omega⟩ : Fin cfg0.N) = t := Fin.ext (by show (y 1).val / 512 = t.val; omega)
    rw [et]
    refine congrArg _ (funext fun a => Fin.ext ?_)
    match a with
    | ⟨0, _⟩ => show (y 0).val - 0 = (y 0).val; omega
    | ⟨1, _⟩ => show (y 1).val - 512 * (grid0.coords t 0).val = (y 1).val % 512; omega
  · rw [dif_neg hm]
    refine h y ?_
    by_contra hlt
    refine hm fun a => ?_
    match a with
    | ⟨0, _⟩ => exact ⟨Nat.zero_le _, by show (y 0).val < 0 + 640; have : (y 0).val < 640 := (y 0).isLt; omega⟩
    | ⟨1, _⟩ => exact ⟨by show 512 * (grid0.coords t 0).val ≤ (y 1).val; omega, by show (y 1).val < 512 * (grid0.coords t 0).val + 512; omega⟩

/-- After the last point every column is computed. -/
theorem upto_all (c : Dev nD) (n : ℕ) (hn : n = 8) (x : Vec F S640x4096 .f32) (h : Upto m c n x) : x = hfull m c := by
  subst hn
  exact funext fun y => h y (by have : (y 1).val < 4096 := (y 1).isLt; omega)

/-- The invariant before point `n`: before the first the launch's; afterwards the codes widened, and the generator register at
    some state. -/
def PhiG (c : Dev nD) : ℕ → sProp 𝕄
  | 0 => Pipeline.ΦA spec0 c
  | n + 1 => iprop(owns (c : Thread nD τ) scM0_0 fullShare (xb m c) ∗ (∃ r, prngReg c r))

theorem PhiG_pos (c : Dev nD) (n : ℕ) (h : n ≠ 0) :
    PhiG m c n = iprop(owns (c : Thread nD τ) scM0_0 fullShare (xb m c) ∗ (∃ r, prngReg c r)) := by
  cases n with
  | zero => exact absurd rfl h
  | succ n => rfl

/-- The run's data: the arrays as the region finds them; the inputs' buffers left as found; the sums' buffer left with one more
    block of columns computed; each other output's buffer left, at the last point, at what the loop over the rows computes from
    all the sums (before it, at anything). -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => Upto m c t.val Y → Upto m c (t.val + 1) X
    | ⟨7, _⟩ => fun _ X => t.val = 7 → X = codesOf (hfull m c) (iblk m c 5 t)
    | ⟨8, _⟩ => fun _ X => t.val = 7 → X = scalesOf (hfull m c) (iblk m c 5 t)
    | ⟨9, _⟩ => fun _ X => t.val = 7 → X = repOf (hfull m c) (iblk m c 5 t)
  Φ t := PhiG m c t.val
  q _ := fullShare
  owed _ := 0

theorem A_eq (c : Dev nD) (w : Fin cfg0.W) : (rdat m c).A w = V m c (Pipeline.arrRef spec0 w) := by
  dsimp only [rdat]

/-- Each input's buffer holds its block at every point. -/
theorem finds0_0 (c : Dev nD) (t : Fin cfg0.N) (Y) (hY : (rdat m c).Finds 0 t Y) : Y = iblk m c 0 t := by
  obtain ⟨d, hd⟩ := Pipeline.RDat.finds_in_eq_fetched (rdat m c) 0 rfl (fun _ _ _ => rfl) (fun t Y X h => h) t Y hY
  exact hd.trans (by unfold Pipeline.RDat.fetched Pipeline.RDat.blockOf iblk; rw [A_eq]; try rfl)
theorem finds0_1 (c : Dev nD) (t : Fin cfg0.N) (Y) (hY : (rdat m c).Finds 1 t Y) : Y = iblk m c 1 t := by
  obtain ⟨d, hd⟩ := Pipeline.RDat.finds_in_eq_fetched (rdat m c) 1 rfl (fun _ _ _ => rfl) (fun t Y X h => h) t Y hY
  exact hd.trans (by unfold Pipeline.RDat.fetched Pipeline.RDat.blockOf iblk; rw [A_eq]; try rfl)
theorem finds0_2 (c : Dev nD) (t : Fin cfg0.N) (Y) (hY : (rdat m c).Finds 2 t Y) : Y = iblk m c 2 t := by
  obtain ⟨d, hd⟩ := Pipeline.RDat.finds_in_eq_fetched (rdat m c) 2 rfl (fun _ _ _ => rfl) (fun t Y X h => h) t Y hY
  exact hd.trans (by unfold Pipeline.RDat.fetched Pipeline.RDat.blockOf iblk; rw [A_eq]; try rfl)
theorem finds0_3 (c : Dev nD) (t : Fin cfg0.N) (Y) (hY : (rdat m c).Finds 3 t Y) : Y = iblk m c 3 t := by
  obtain ⟨d, hd⟩ := Pipeline.RDat.finds_in_eq_fetched (rdat m c) 3 rfl (fun _ _ _ => rfl) (fun t Y X h => h) t Y hY
  exact hd.trans (by unfold Pipeline.RDat.fetched Pipeline.RDat.blockOf iblk; rw [A_eq]; try rfl)
theorem finds0_4 (c : Dev nD) (t : Fin cfg0.N) (Y) (hY : (rdat m c).Finds 4 t Y) : Y = iblk m c 4 t := by
  obtain ⟨d, hd⟩ := Pipeline.RDat.finds_in_eq_fetched (rdat m c) 4 rfl (fun _ _ _ => rfl) (fun t Y X h => h) t Y hY
  exact hd.trans (by unfold Pipeline.RDat.fetched Pipeline.RDat.blockOf iblk; rw [A_eq]; try rfl)
theorem finds0_5 (c : Dev nD) (t : Fin cfg0.N) (Y) (hY : (rdat m c).Finds 5 t Y) : Y = iblk m c 5 t := by
  obtain ⟨d, hd⟩ := Pipeline.RDat.finds_in_eq_fetched (rdat m c) 5 rfl (fun _ _ _ => rfl) (fun t Y X h => h) t Y hY
  exact hd.trans (by unfold Pipeline.RDat.fetched Pipeline.RDat.blockOf iblk; rw [A_eq]; try rfl)

/-- The sums' buffer is found with the columns of the points run computed. -/
theorem finds0_6 (c : Dev nD) (t : Fin cfg0.N) (Y : Vec F S640x4096 .f32) (hY : (rdat m c).Finds 6 t Y) : Upto m c t.val Y := by
  induction hn : t.val generalizing t Y with
  | zero => exact fun y hy => absurd hy (by omega)
  | succ n ih =>
    have ht : t.val < 8 := Nat.lt_of_lt_of_eq t.isLt N_0
    have h := ((rdat m c).finds_of_pos (w := 6) (t := t) rfl (by omega) Y).mp hY
    rcases h with h | ⟨Y', hY', hX⟩
    · have := (flush0_6 _).mp h
      have e : (⟨t.val - 1, Nat.lt_of_le_of_lt (Nat.sub_le _ _) t.isLt⟩ : Fin cfg0.N).val = t.val - 1 := rfl
      omega
    · have e : t.val - 1 = n := by omega
      have hu := ih _ Y' hY' e
      have hX' : Upto m c (t.val - 1) Y' → Upto m c (t.val - 1 + 1) Y := hX
      rw [e] at hX'
      exact hX' hu

/-- What the body is handed at point `t`, the windows one by one. -/
def bodyPre (c : Dev nD) (t : Fin cfg0.N) (y6 : Vec F S640x4096 .f32) (y7 : Vec F S640x4096 .i8) (y8 : Vec F S20x32 .f32) (y9 : Vec F S640x128 .f32) : sProp 𝕄 :=
  iprop(PhiG m c t.val ∗ (rdat m c).owesAt () t.castSucc
    ∗ owns (c : Thread nD τ) (ms0_0 t) fullShare (iblk m c 0 t : Vec F S640x2048 .i8)
    ∗ owns (c : Thread nD τ) (ms0_1 t) fullShare (iblk m c 1 t : Vec F S640x128 .f32)
    ∗ owns (c : Thread nD τ) (ms0_2 t) fullShare (iblk m c 2 t : Vec F S2048x512 .i8)
    ∗ owns (c : Thread nD τ) (ms0_3 t) fullShare (iblk m c 3 t : Vec F S1x512 .f32)
    ∗ owns (c : Thread nD τ) (ms0_4 t) fullShare (iblk m c 4 t : Vec F S640x512 .bf16)
    ∗ owns (c : Thread nD τ) (ms0_5 t) fullShare (iblk m c 5 t : Vec F S1x4096 .f32)
    ∗ owns (c : Thread nD τ) (ms0_6 t) fullShare y6
    ∗ owns (c : Thread nD τ) (ms0_7 t) fullShare y7
    ∗ owns (c : Thread nD τ) (ms0_8 t) fullShare y8
    ∗ owns (c : Thread nD τ) (ms0_9 t) fullShare y9)

/-- What the body hands back. -/
def bodyPost (c : Dev nD) (t : Fin cfg0.N) (y6 : Vec F S640x4096 .f32) : sProp 𝕄 :=
  iprop(PhiG m c (t.val + 1) ∗ (rdat m c).owesAt () t.castSucc
    ∗ (∃ X : Vec F S640x2048 .i8, ⌜X = iblk m c 0 t⌝ ∗ owns (c : Thread nD τ) (ms0_0 t) fullShare X)
    ∗ (∃ X : Vec F S640x128 .f32, ⌜X = iblk m c 1 t⌝ ∗ owns (c : Thread nD τ) (ms0_1 t) fullShare X)
    ∗ (∃ X : Vec F S2048x512 .i8, ⌜X = iblk m c 2 t⌝ ∗ owns (c : Thread nD τ) (ms0_2 t) fullShare X)
    ∗ (∃ X : Vec F S1x512 .f32, ⌜X = iblk m c 3 t⌝ ∗ owns (c : Thread nD τ) (ms0_3 t) fullShare X)
    ∗ (∃ X : Vec F S640x512 .bf16, ⌜X = iblk m c 4 t⌝ ∗ owns (c : Thread nD τ) (ms0_4 t) fullShare X)
    ∗ (∃ X : Vec F S1x4096 .f32, ⌜X = iblk m c 5 t⌝ ∗ owns (c : Thread nD τ) (ms0_5 t) fullShare X)
    ∗ (∃ X : Vec F S640x4096 .f32, ⌜Upto m c t.val y6 → Upto m c (t.val + 1) X⌝ ∗ owns (c : Thread nD τ) (ms0_6 t) fullShare X)
    ∗ (∃ X : Vec F S640x4096 .i8, ⌜t.val = 7 → X = codesOf (hfull m c) (iblk m c 5 t)⌝ ∗ owns (c : Thread nD τ) (ms0_7 t) fullShare X)
    ∗ (∃ X : Vec F S20x32 .f32, ⌜t.val = 7 → X = scalesOf (hfull m c) (iblk m c 5 t)⌝ ∗ owns (c : Thread nD τ) (ms0_8 t) fullShare X)
    ∗ (∃ X : Vec F S640x128 .f32, ⌜t.val = 7 → X = repOf (hfull m c) (iblk m c 5 t)⌝ ∗ owns (c : Thread nD τ) (ms0_9 t) fullShare X))

/-- The body at any point: the first, a middle one, or the last. -/
theorem sound_body (c : Dev nD) (t : Fin cfg0.N) (y6 : Vec F S640x4096 .f32) (y7 : Vec F S640x4096 .i8) (y8 : Vec F S20x32 .f32) (y9 : Vec F S640x128 .f32) (h6 : Upto m c t.val y6) :
    bodyPre m c t y6 y7 y8 y9 ⊢ wp frame (wpE (defs₀ (F := F)) Variants.none c none) Set.univ (bodyAt0 t) (fun _ => bodyPost m c t y6) := by
  unfold bodyPre bodyPost bodyAt0
  rw [PhiG_pos m c (t.val + 1) (Nat.succ_ne_zero _)]
  have hu := put_upto m c t y6 h6
  by_cases h0 : t.val = 0
  · have h2 : ¬ k0_cond2 (grid0.coords t) = 1#1 := fun h => by have := (last_iff t).mp h; omega
    have et : t = t0_0 := Fin.ext h0
    rw [show PhiG m c t.val = Pipeline.ΦA spec0 c from by rw [h0]; rfl, PhiA0_eq]
    iintro ⟨⟨⟨%x11, HS⟩, Hg⟩, Ho, H0, H1, H2, H3, H4, H5, H6, H7, H8, H9⟩
    iapply (run_first c (grid0.coords t) _ _ _ _ _ _ _ _ _ _ _ _ _ _ _ _ _ _ _ _ _ _ ((first_iff t).mpr h0) h2 (iblk m c 0 t) (iblk m c 1 t) (iblk m c 2 t) (iblk m c 3 t) (iblk m c 4 t) x11 y6 Set.univ _)
    isplitl [H0]; · iexact H0
    isplitl [H1]; · iexact H1
    isplitl [H2]; · iexact H2
    isplitl [H3]; · iexact H3
    isplitl [H4]; · iexact H4
    isplitl [HS]; · iexact HS
    isplitl [H6]; · iexact H6
    have ex : (k0_pay1 (iblk m c 0 t) : Vec F S640x2048 .bf16) = xb m c := by unfold xb; rw [et]
    rw [ex]
    iintro ⟨H0, H1, H2, H3, H4, HS, H6⟩
    isplitl [HS Hg]
    · isplitl [HS]; · iexact HS
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr
      swap; · iexact H6
      ipureintro; exact fun _ => hu
    isplitl [H7]
    · iexists _; isplitr
      swap; · iexact H7
      ipureintro; exact fun h => absurd h (by omega)
    isplitl [H8]
    · iexists _; isplitr
      swap; · iexact H8
      ipureintro; exact fun h => absurd h (by omega)
    iexists _; isplitr
    swap; · iexact H9
    ipureintro; exact fun h => absurd h (by omega)
  · have h1 : ¬ first (grid0.coords t) := fun h => h0 ((first_iff t).mp h)
    rw [PhiG_pos m c t.val h0]
    by_cases hl : t.val = 7
    · iintro ⟨⟨HS, Hg⟩, Ho, H0, H1, H2, H3, H4, H5, H6, H7, H8, H9⟩
      iapply (run_last c (grid0.coords t) _ _ _ _ _ _ _ _ _ _ _ _ _ _ _ _ _ _ _ _ _ _ h1 ((last_iff t).mpr hl) (iblk m c 0 t) (iblk m c 1 t) (iblk m c 2 t) (iblk m c 3 t) (iblk m c 4 t) (xb m c) y6 (iblk m c 5 t) y7 y8 y9 Set.univ _)
      isplitl [H0]; · iexact H0
      isplitl [H1]; · iexact H1
      isplitl [H2]; · iexact H2
      isplitl [H3]; · iexact H3
      isplitl [H4]; · iexact H4
      isplitl [HS]; · iexact HS
      isplitl [H6]; · iexact H6
      isplitl [H5]; · iexact H5
      isplitl [H7]; · iexact H7
      isplitl [H8]; · iexact H8
      isplitl [H9]; · iexact H9
      have ha := upto_all m c (t.val + 1) (by omega) _ hu
      iintro ⟨H0, H1, H2, H3, H4, HS, H6, H5, H7, H8, H9⟩
      isplitl [HS Hg]
      · isplitl [HS]; · iexact HS
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      isplitl [H6]
      · iexists _; isplitr
        swap; · iexact H6
        ipureintro; exact fun _ => hu
      isplitl [H7]
      · iexists _; isplitr
        swap; · iexact H7
        ipureintro; exact fun _ => congrArg (codesOf · (iblk m c 5 t)) ha
      isplitl [H8]
      · iexists _; isplitr
        swap; · iexact H8
        ipureintro; exact fun _ => congrArg (scalesOf · (iblk m c 5 t)) ha
      iexists _; isplitr
      swap; · iexact H9
      ipureintro; exact fun _ => congrArg (repOf · (iblk m c 5 t)) ha
    · have h2 : ¬ k0_cond2 (grid0.coords t) = 1#1 := fun h => hl ((last_iff t).mp h)
      iintro ⟨⟨HS, Hg⟩, Ho, H0, H1, H2, H3, H4, H5, H6, H7, H8, H9⟩
      iapply (run_mid c (grid0.coords t) _ _ _ _ _ _ _ _ _ _ _ _ _ _ _ _ _ _ _ _ _ _ h1 h2 (iblk m c 0 t) (iblk m c 1 t) (iblk m c 2 t) (iblk m c 3 t) (iblk m c 4 t) (xb m c) y6 Set.univ _)
      isplitl [H0]; · iexact H0
      isplitl [H1]; · iexact H1
      isplitl [H2]; · iexact H2
      isplitl [H3]; · iexact H3
      isplitl [H4]; · iexact H4
      isplitl [HS]; · iexact HS
      isplitl [H6]; · iexact H6
      iintro ⟨H0, H1, H2, H3, H4, HS, H6⟩
      isplitl [HS Hg]
      · isplitl [HS]; · iexact HS
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      isplitl [H6]
      · iexists _; isplitr
        swap; · iexact H6
        ipureintro; exact fun _ => hu
      isplitl [H7]
      · iexists _; isplitr
        swap; · iexact H7
        ipureintro; exact fun h => absurd h (hl)
      isplitl [H8]
      · iexists _; isplitr
        swap; · iexact H8
        ipureintro; exact fun h => absurd h (hl)
      iexists _; isplitr
      swap; · iexact H9
      ipureintro; exact fun h => absurd h (hl)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  have e0 := finds0_0 m c t _ (hY 0)
  have e1 := finds0_1 m c t _ (hY 1)
  have e2 := finds0_2 m c t _ (hY 2)
  have e3 := finds0_3 m c t _ (hY 3)
  have e4 := finds0_4 m c t _ (hY 4)
  have e5 := finds0_5 m c t _ (hY 5)
  rw [bigSep_W0, bigSep_W0, defs₀_row, e0, e1, e2, e3, e4, e5]
  exact triple_restated (sound_body m c t (Y 6) (Y 7) (Y 8) (Y 9) (finds0_6 m c t _ (hY 6))) rfl .rfl fun _ => .rfl

/-- What the launch hands the region is the invariant before the first point. -/
theorem hin (c : Dev nD) : Pipeline.ΦA spec0 c ⊢ (rdat m c).Φ 0 := by
  rw [show (rdat m c).Φ 0 = Pipeline.ΦA spec0 c from rfl]

/-- After the last point the invariant gives the launch's back. -/
theorem hout (c : Dev nD) : (rdat m c).Φ (Fin.last cfg0.N) ⊢ Pipeline.ΦA spec0 c := by
  rw [show (rdat m c).Φ (Fin.last cfg0.N) = PhiG m c (Fin.last cfg0.N).val from rfl,
    PhiG_pos m c _ (by rw [Fin.val_last]; have : cfg0.N = 8 := N_0; omega), PhiA0_eq]
  iintro ⟨HS, Hg⟩
  isplitl [HS]
  · iexists _; iexact HS
  iexact Hg

-- the run theorem's implicit arguments are found by unifying its conclusion with this one
set_option backward.isDefEq.respectTransparency.types false in
/-- The run of the whole program: the arrays end as the data say, every semaphore counter at zero. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := A_eq m) (hin := hin m) (hout := hout m)

/-- The arguments are as they were. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(Pipeline.RDat.FramePost.arr_in h c 0 rfl).trans ((A_eq m c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (Pipeline.RDat.FramePost.arr_in h c 4 rfl).trans ((A_eq m c 4).trans (V_main_arg4 m c)),
   ((h c).2 main_arg5 (Pipeline.mem_restRefs_of main_arg5 (by decide) (by decide))).trans (V_main_arg5 m c)⟩

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m r h.1, h.2⟩) (run_main_quiescent m ρ)

/-- What the body leaves at the last point in the sums', the codes' and the scales' buffers. -/
theorem leaves_6 (c : Dev nD) (X : Vec F S640x4096 .f32) (h : (rdat m c).Leaves 6 t0_7 X) : X = hfull m c := by
  obtain ⟨Y, hY, hX⟩ := h
  have hX' : Upto m c 7 Y → Upto m c (7 + 1) X := hX
  exact upto_all m c (7 + 1) (by omega) X (hX' (finds0_6 m c t0_7 Y hY))
theorem leaves_7 (c : Dev nD) (X : Vec F S640x4096 .i8) (h : (rdat m c).Leaves 7 t0_7 X) : X = codesOf (hfull m c) (iblk m c 5 t0_7) := by
  obtain ⟨Y, _, hX⟩ := h
  exact hX rfl
theorem leaves_8 (c : Dev nD) (X : Vec F S20x32 .f32) (h : (rdat m c).Leaves 8 t0_7 X) : X = scalesOf (hfull m c) (iblk m c 5 t0_7) := by
  obtain ⟨Y, _, hX⟩ := h
  exact hX rfl

theorem whole_6 : (cfg0.win 6).WholeAt t0_7 := (by decide +kernel : win0_6.WholeAt t0_7)
theorem whole_7 : (cfg0.win 7).WholeAt t0_7 := (by decide +kernel : win0_7.WholeAt t0_7)
theorem whole_8 : (cfg0.win 8).WholeAt t0_7 := (by decide +kernel : win0_8.WholeAt t0_7)

/-- The sums, the codes and the scales after the run. -/
theorem results (r : PUnit × MemSt nD τ sig (Elt F)) (h : Pipeline.RDat.FramePost cfg0 (rdat m) (V m) r) (c : Dev nD) :
    r.2.mem ((c.tc : Thread nD τ).loc main_v5_0) = hfull m c
    ∧ r.2.mem ((c.tc : Thread nD τ).loc main_v5_1) = codesOf (hfull m c) (iblk m c 5 t0_7)
    ∧ r.2.mem ((c.tc : Thread nD τ).loc main_v5_2) = scalesOf (hfull m c) (iblk m c 5 t0_7) := by
  refine ⟨?_, ?_, ?_⟩
  · obtain ⟨X, hX, hj⟩ := ((h c).1 6).emb_eq_of_wholeAt whole_6
    have e := leaves_6 m c X hX
    subst e
    exact funext fun j => hj j
  · obtain ⟨X, hX, hj⟩ := ((h c).1 7).emb_eq_of_wholeAt whole_7
    have e := leaves_7 m c X hX
    subst e
    exact funext fun j => hj j
  · obtain ⟨X, hX, hj⟩ := ((h c).1 8).emb_eq_of_wholeAt whole_8
    have e := leaves_8 m c X hX
    subst e
    exact funext fun j => hj j

end Cert.OProjIdeal.Hand

end
-- ==== Proof.OProjValue.lean ====
/-
  The output projection: the kernel's and the reference's values read entry by entry, at the extended reals.
-/
module

public import proofs.«01_k».proof.Defs
public import proofs.«01_k».proof.Proof.OProjFrame
public import proofs.«01_k».proof.Proof.Gen.OProjRefIdeal.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.OProjIdeal.Hand

open Cert.OProjIdeal Cert.OProjIdeal.Gen
open Cert.GateUpIdeal.Hand (rowScale code rowMax scale_apply lane_eq rowScale_ne mul_inv)

/-- An entry of the rescaled product added to the residual, from a row of codes, a column of weights and their two scales. -/
def addProj (x w : Fin 2048 → EReal) (s t res : EReal) : EReal := res + (∑ k, x k * w k) * s * t

/-- The mean square of a row, with the small constant added. -/
def meanSq (v : Fin 4096 → EReal) : EReal :=
  Ideal.div (∑ k, v k * v k) (Ideal.ofBits FTy.f32 1166016512#32) + Ideal.ofBits FTy.f32 925353388#32

/-- A row's value divided by the root of its mean square, times its gain. -/
def normed (v : Fin 4096 → EReal) (x g : EReal) : EReal := Ideal.div x (Ideal.sqrt (meanSq v)) * g

/-- The root of the mean square of each row of the whole array. -/
def wholeRoot (M : FVec Ideal OProjRefIdeal.S640 .f32) : FVec Ideal OProjRefIdeal.S640x1 .f32 :=
  sqrt (addf (divf (shapeCast OProjRefIdeal.S640x1 M OProjRefIdeal.Gen.shapeCasts_S640_S640x1) (broadcast OProjRefIdeal.S640x1 (Scalar.ofBits .f32 0x45800000#32)))
    (broadcast OProjRefIdeal.S640x1 (Scalar.ofBits .f32 0x3727C5AC#32)))

/-- The whole array normalised, from the sum of squares of each row, with the gains. -/
def wholeNorm (X : FVec Ideal OProjRefIdeal.S640x4096 .f32) (M : FVec Ideal OProjRefIdeal.S640 .f32) (g : FVec Ideal OProjRefIdeal.S4096 .f32) :
    FVec Ideal OProjRefIdeal.S640x4096 .f32 :=
  mulf (divf X (broadcastTo OProjRefIdeal.S640x4096 (wholeRoot M) OProjRefIdeal.Gen.broadcasts_S640x1_S640x4096))
    (broadcastTo OProjRefIdeal.S640x4096 (shapeCast OProjRefIdeal.S1x4096 g OProjRefIdeal.Gen.shapeCasts_S4096_S1x4096) OProjRefIdeal.Gen.broadcasts_S1x4096_S640x4096)

/-- The sum of squares of each row of the whole array. -/
def wholeSq (X : FVec Ideal OProjRefIdeal.S640x4096 .f32) : FVec Ideal OProjRefIdeal.S640 .f32 :=
  multiReduction .add [1] OProjRefIdeal.S640 (mulf X X) 0x00000000#32 OProjRefIdeal.Gen.reduces_S640x4096_S640 (.inl rfl) rfl

theorem pay4_eq (a0 : Vec Ideal S640x2048 .i8) (a1 : Vec Ideal S20x32 .f32) (a2 : Vec Ideal S16x128x4096 .i8) (a3 : Vec Ideal S4096 .f32) (a4 : Vec Ideal S640x4096 .bf16) (a5 : Vec Ideal S4096 .f32) :
    OProjRefIdeal.Gen.k0_pay4 a0 a1 a2 a3 a4 a5
      = wholeNorm (OProjRefIdeal.Gen.k0_pay3 a0 a1 a2 a3 a4) (wholeSq (OProjRefIdeal.Gen.k0_pay3 a0 a1 a2 a3 a4)) a5 := rfl

/-- The scale of each row of the whole normalised array: its largest magnitude over 127, or one where that is zero. -/
def wholeScale (X : FVec Ideal OProjRefIdeal.S640x4096 .f32) : FVec Ideal OProjRefIdeal.S640 .f32 :=
  select (cmpf .oeq (multiReduction .maximumf [1] OProjRefIdeal.S640 (absf X) 0xFF800000#32 OProjRefIdeal.Gen.reduces_S640x4096_S640 (.inl rfl) rfl)
      (broadcast OProjRefIdeal.S640 (Scalar.ofBits .f32 0x00000000#32)))
    (broadcast OProjRefIdeal.S640 (Scalar.ofBits .f32 0x3F800000#32))
    (divf (multiReduction .maximumf [1] OProjRefIdeal.S640 (absf X) 0xFF800000#32 OProjRefIdeal.Gen.reduces_S640x4096_S640 (.inl rfl) rfl)
      (broadcast OProjRefIdeal.S640 (Scalar.ofBits .f32 0x42FE0000#32)))

theorem pay5_eq (a0 : Vec Ideal S640x2048 .i8) (a1 : Vec Ideal S20x32 .f32) (a2 : Vec Ideal S16x128x4096 .i8) (a3 : Vec Ideal S4096 .f32) (a4 : Vec Ideal S640x4096 .bf16) (a5 : Vec Ideal S4096 .f32) :
    OProjRefIdeal.Gen.k0_pay5 a0 a1 a2 a3 a4 a5 = wholeScale (OProjRefIdeal.Gen.k0_pay4 a0 a1 a2 a3 a4 a5) := rfl

/-- The codes of the whole normalised array, from the scale of each row. -/
def wholeCodes (X : FVec Ideal OProjRefIdeal.S640x4096 .f32) (s : FVec Ideal OProjRefIdeal.S640 .f32) : IVec OProjRefIdeal.S640x4096 8 :=
  OProjRefIdeal.Gen.k0_pay1 X (shapeCast OProjRefIdeal.S640x1 s OProjRefIdeal.Gen.shapeCasts_S640_S640x1)

theorem codes_eq (a0 : Vec Ideal S640x2048 .i8) (a1 : Vec Ideal S20x32 .f32) (a2 : Vec Ideal S16x128x4096 .i8) (a3 : Vec Ideal S4096 .f32) (a4 : Vec Ideal S640x4096 .bf16) (a5 : Vec Ideal S4096 .f32) :
    OProjRefIdeal.Gen.k0_pay1 (OProjRefIdeal.Gen.k0_pay4 a0 a1 a2 a3 a4 a5) (OProjRefIdeal.Gen.k0_pay6 a0 a1 a2 a3 a4 a5)
      = wholeCodes (OProjRefIdeal.Gen.k0_pay4 a0 a1 a2 a3 a4 a5) (OProjRefIdeal.Gen.k0_pay5 a0 a1 a2 a3 a4 a5) := rfl

theorem added_apply (x11 : Vec Ideal S640x2048 .bf16) (x2 : Vec Ideal S640x128 .f32) (x3 : Vec Ideal S2048x512 .i8) (x4 : Vec Ideal S1x512 .f32) (x5 : Vec Ideal S640x512 .bf16)
    (r : Fin 640) (j : Fin 512) : added x11 x2 x3 x4 x5 (ix2 r j)
      = addProj (fun k => x11 (ix2 r k)) (fun k => FloatOps.sitofp (F := Ideal) .bf16 (x3 (ix2 k j))) (x2 (ix2 r (0 : Fin 128))) (x4 (ix2 (0 : Fin 1) j)) (x5 (ix2 r j)) := by
  unfold addProj added k0_pay2
  pointwise

theorem whole_apply (a0 : Vec Ideal S640x2048 .i8) (a1 : Vec Ideal S20x32 .f32) (a2 : Vec Ideal S16x128x4096 .i8) (a3 : Vec Ideal S4096 .f32) (a4 : Vec Ideal S640x4096 .bf16)
    (r : Fin 640) (j : Fin 4096) : OProjRefIdeal.Gen.k0_pay3 a0 a1 a2 a3 a4 (ix2 r j)
      = addProj (fun k => FloatOps.sitofp (F := Ideal) .bf16 (a0 (ix2 r k)))
          (fun k => FloatOps.sitofp (F := Ideal) .bf16 (a2 (ix3 (⟨k.val / 128, by omega⟩ : Fin 16) (⟨k.val % 128, by omega⟩ : Fin 128) j)))
          (a1 (ix2 (⟨r.val / 32, by omega⟩ : Fin 20) (⟨r.val % 32, by omega⟩ : Fin 32))) (a3 (ix1 j)) (a4 (ix2 r j)) := by
  unfold addProj OProjRefIdeal.Gen.k0_pay3
  pointwise

/-- A row's sum of squares, as the sum along the row. -/
theorem rowSq {n d : Nat} (X : FVec Ideal (⟨2, ![n, d]⟩ : Shape) .f32) (h : (⟨2, ![n, d]⟩ : Shape).Reduces [1] ⟨1, ![n]⟩)
    (hφ : FKind.Formats .f32) (hacc : (0x00000000#32 : BitVec 32) = FKind.add.neutral .f32 hφ) (r : Fin n) :
    multiReduction .add [1] (⟨1, ![n]⟩ : Shape) (mulf X X) 0x00000000#32 h hφ hacc (ix1 r) = ∑ k : Fin d, (X (ix2 r k) * X (ix2 r k) : EReal) := by
  rw [Ideal.multiReduction_add_single]
  refine congrArg (fun f : Fin d → EReal => ∑ k, f k) (funext fun k => ?_)
  have e : h.lift (ix1 r) k = ix2 r k := funext fun a => Fin.ext (by
    match a with
    | ⟨0, _⟩ => rfl
    | ⟨1, _⟩ => rfl)
  rw [e]
  rfl

theorem wholeNorm_of (X : FVec Ideal OProjRefIdeal.S640x4096 .f32) (M : FVec Ideal OProjRefIdeal.S640 .f32) (g : FVec Ideal OProjRefIdeal.S4096 .f32) (r : Fin 640) (j : Fin 4096) :
    wholeNorm X M g (ix2 r j) = Ideal.div (X (ix2 r j)) (Ideal.sqrt (Ideal.div (M (ix1 r)) (Ideal.ofBits FTy.f32 1166016512#32) + Ideal.ofBits FTy.f32 925353388#32)) * g (ix1 j) := by
  unfold wholeNorm wholeRoot
  pointwise

theorem wholeNorm_apply (X : FVec Ideal OProjRefIdeal.S640x4096 .f32) (g : FVec Ideal OProjRefIdeal.S4096 .f32) (r : Fin 640) (j : Fin 4096) :
    wholeNorm X (wholeSq X) g (ix2 r j) = normed (fun k => X (ix2 r k)) (X (ix2 r j)) (g (ix1 j)) := by
  rw [wholeNorm_of]
  have e : wholeSq X (ix1 r) = ∑ k : Fin 4096, (X (ix2 r k) * X (ix2 r k) : EReal) := rowSq X _ _ _ r
  rw [e]
  rfl

theorem pay5_apply (v : Vec Ideal S32x4096 .f32) (g : Vec Ideal S1x4096 .f32) (a : Fin 32) (j : Fin 4096) :
    k0_pay5 v g (ix2 a j) = v (ix2 a j) * Ideal.div 1 (Ideal.sqrt (meanSq (fun k => v (ix2 a k)))) * g (ix2 (0 : Fin 1) j) := by
  unfold meanSq k0_pay5
  pointwise

theorem pay6_apply (v : Vec Ideal S32x4096 .f32) (g : Vec Ideal S1x4096 .f32) (a : Fin 32) : k0_pay6 v g (ix2 a (0 : Fin 1)) = rowScale (fun j => k0_pay5 v g (ix2 a j)) := by
  unfold rowScale k0_pay6
  generalize k0_pay5 v g = w
  pointwise

theorem wholeScale_apply (X : FVec Ideal OProjRefIdeal.S640x4096 .f32) (r : Fin 640) : wholeScale X (ix1 r) = rowScale (fun j => X (ix2 r j)) := by
  unfold rowScale
  rw [← rowMax X OProjRefIdeal.Gen.reduces_S640x4096_S640 (.inl rfl) rfl r]
  exact scale_apply _ r

theorem pay7_apply (v : Vec Ideal S32x4096 .f32) (g : Vec Ideal S1x4096 .f32) (a : Fin 32) (j : Fin 4096) :
    k0_pay7 v g (ix2 a j) = code (k0_pay5 v g (ix2 a j) * Ideal.div 1 (k0_pay6 v g (ix2 a (0 : Fin 1)))) := by
  unfold code k0_pay7
  generalize k0_pay6 v g = s
  generalize k0_pay5 v g = w
  pointwise

theorem wholeCodes_apply (X : FVec Ideal OProjRefIdeal.S640x4096 .f32) (s : FVec Ideal OProjRefIdeal.S640 .f32) (r : Fin 640) (j : Fin 4096) :
    wholeCodes X s (ix2 r j) = code (Ideal.div (X (ix2 r j)) (s (ix1 r))) := by
  unfold code wholeCodes OProjRefIdeal.Gen.k0_pay1
  pointwise

theorem refScales_apply (s : FVec Ideal OProjRefIdeal.S640 .f32) (i : Fin 20) (j : Fin 32) :
    OProjRefIdeal.Gen.k0_pay2 s (ix2 i j) = s (ix1 (⟨32 * i.val + j.val, by omega⟩ : Fin 640)) := by
  unfold OProjRefIdeal.Gen.k0_pay2
  pointwise
  exact congrArg s (congrArg ix1 (Fin.ext (by dsimp only; omega)))

/-- The diagonal's sum over the rows keeps each row's scale in its own lane. -/
theorem diag_apply (s : FVec Ideal S32x1 .f32) (j : Fin 32) : k0_pay4 s (ix2 (0 : Fin 1) j) = s (ix2 j (0 : Fin 1)) := by
  unfold k0_pay4 k0_pay3
  pointwise
  refine (Finset.sum_eq_single j (fun a _ ha => ?_) (fun h => absurd (Finset.mem_univ j) h)).trans ?_
  · rw [lane_eq, if_neg ha]; rfl
  · rw [lane_eq, if_pos rfl]; rfl

theorem ofBits_4096 : Ideal.ofBits FTy.f32 1166016512#32 = ((4096 : ℝ) : EReal) := by
  simp [Ideal.ofBits, Ideal.ieee, -EReal.coe_mul]; norm_num

theorem ofBits_eps_pos : ∃ e : ℝ, 0 < e ∧ Ideal.ofBits FTy.f32 925353388#32 = (e : EReal) := by
  refine ⟨_, ?_, by simp [Ideal.ofBits, Ideal.ieee, -EReal.coe_mul]; rfl⟩
  norm_num

/-- The mean square with the constant added is positive. -/
theorem meanSq_pos (v : Fin 4096 → EReal) : 0 < meanSq v := by
  unfold meanSq
  obtain ⟨e, he, h⟩ := ofBits_eps_pos
  rw [h, ofBits_4096, Ideal.div_coe (by norm_num)]
  have hs : 0 ≤ ∑ k, v k * v k := Finset.sum_nonneg fun k _ => EReal.mul_nonneg_iff.mpr ((le_total 0 (v k)).imp (fun h => ⟨h, h⟩) (fun h => ⟨h, h⟩))
  refine lt_of_lt_of_le (EReal.coe_pos.mpr he) (le_add_of_nonneg_left (EReal.mul_nonneg hs (EReal.coe_nonneg.mpr (by norm_num))))

/-- The root of a positive number is not zero. -/
theorem sqrt_ne (x : EReal) (h : 0 < x) : Ideal.sqrt x ≠ 0 := by
  induction x using EReal.rec with
  | bot => exact absurd h (by simp)
  | top => exact EReal.top_ne_zero
  | coe r =>
    have hr : 0 < r := EReal.coe_pos.mp h
    show (if r < 0 then (⊥ : EReal) else (Real.sqrt r : EReal)) ≠ 0
    rw [if_neg (not_lt.mpr hr.le)]
    exact fun e => absurd (EReal.coe_eq_zero.mp e) (Real.sqrt_pos.mpr hr).ne'

/-- The kernel's normalised value, a product with an inverse, is the quotient. -/
theorem pay5_normed (v : Vec Ideal S32x4096 .f32) (g : Vec Ideal S1x4096 .f32) (a : Fin 32) (j : Fin 4096) :
    k0_pay5 v g (ix2 a j) = normed (fun k => v (ix2 a k)) (v (ix2 a j)) (g (ix2 (0 : Fin 1) j)) := by
  rw [pay5_apply, mul_inv _ _ (sqrt_ne _ (meanSq_pos _))]
  rfl

end Cert.OProjIdeal.Hand

end
-- ==== Proof.OProjResult.lean ====
/-
  The output projection: the sums, the codes and the scales that the kernel leaves are the reference's, at the extended reals.
-/
module

public import proofs.«01_k».proof.Defs
public import proofs.«01_k».proof.Proof.OProjValue
public import proofs.«01_k».proof.Proof.Gen.OProj.Frame
public import Idealize.ShloMosaic.Lib.Pointwise
public import Idealize.ShloMosaic.Lib.StableHlo.Run
public import Idealize.ShloMosaic.Lib.Tactic
public import Idealize.ShloMosaic.Adequacy
public import Idealize.ShloMosaic.Init

@[expose] public section

set_option maxRecDepth 16384

noncomputable section

open Idealize.ShloMosaic Idealize.ShloMosaic.TcCoe Idealize.SL.Sem

namespace Cert.OProjIdeal.Hand

open Cert.OProjIdeal Cert.OProjIdeal.Gen
open Cert.GateUpIdeal.Hand (rowScale code rowScale_ne mul_inv)

section Reads

variable {F : FTy → Type} [FloatOps F]
variable (m : (ℓ : Loc nD τ sig) → Buf (Elt F) ℓ)

/-- The index maps, decided over the grid: the weights', the column scales' and the residual's block of point `t` is the `t`-th
    block of columns; each other input's block is the whole array. -/
theorem idx_facts : ∀ t : Fin cfg0.N, win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = t.val ∧ win0_3.index t (0 : Fin 2) = 0 ∧ win0_3.index t (1 : Fin 2) = t.val
    ∧ win0_4.index t (0 : Fin 2) = 0 ∧ win0_4.index t (1 : Fin 2) = t.val ∧ win0_5.index t (0 : Fin 2) = 0 ∧ win0_5.index t (1 : Fin 2) = 0 :=
  (by decide +kernel : ∀ t : Fin grid0.N, _)

/-- The codes' block is the whole array. -/
theorem iblk0_apply (c : Dev nD) (t : Fin cfg0.N) (r : Fin 640) (k : Fin 2048) :
    iblk m c 0 t (ix2 r k) = m ((c : Thread nD τ).loc main_arg0) (ix2 r k) := by
  obtain ⟨a0, b0, a1, b1, a2, b2, a3, b3, a4, b4, a5, b5⟩ := idx_facts t
  rw [← V_main_arg0 m c]
  show V m c main_arg0 (((cfg0.win 0).blk t).view.emb _) = V m c main_arg0 _
  congr 1
  funext a; apply Fin.ext
  match a with
  | ⟨0, _⟩ => show win0_0.index t (0 : Fin 2) * 640 + 1 * r.val = r.val; omega
  | ⟨1, _⟩ => show win0_0.index t (1 : Fin 2) * 2048 + 1 * k.val = k.val; omega

/-- The row scales' block is the whole array. -/
theorem iblk1_apply (c : Dev nD) (t : Fin cfg0.N) (r : Fin 640) (l : Fin 128) :
    iblk m c 1 t (ix2 r l) = V m c main_v1 (ix2 r l) := by
  obtain ⟨a0, b0, a1, b1, a2, b2, a3, b3, a4, b4, a5, b5⟩ := idx_facts t
  show V m c main_v1 (((cfg0.win 1).blk t).view.emb _) = V m c main_v1 _
  congr 1
  funext a; apply Fin.ext
  match a with
  | ⟨0, _⟩ => show win0_1.index t (0 : Fin 2) * 640 + 1 * r.val = r.val; omega
  | ⟨1, _⟩ => show win0_1.index t (1 : Fin 2) * 128 + 1 * l.val = l.val; omega

/-- The weights' block at point `t`: their columns from `512·t`. -/
theorem iblk2_apply (c : Dev nD) (t : Fin cfg0.N) (k : Fin 2048) (j : Fin 512) (J : Fin 4096) (hJ : J.val = 512 * t.val + j.val) :
    iblk m c 2 t (ix2 k j) = V m c main_v2 (ix2 k J) := by
  obtain ⟨a0, b0, a1, b1, a2, b2, a3, b3, a4, b4, a5, b5⟩ := idx_facts t
  show V m c main_v2 (((cfg0.win 2).blk t).view.emb _) = V m c main_v2 _
  congr 1
  funext a; apply Fin.ext
  match a with
  | ⟨0, _⟩ => show win0_2.index t (0 : Fin 2) * 2048 + 1 * k.val = k.val; omega
  | ⟨1, _⟩ => show win0_2.index t (1 : Fin 2) * 512 + 1 * j.val = J.val; omega

/-- The column scales' block at point `t`: the entries from `512·t`. -/
theorem iblk3_apply (c : Dev nD) (t : Fin cfg0.N) (z : Fin 1) (j : Fin 512) (J : Fin 4096) (hJ : J.val = 512 * t.val + j.val) :
    iblk m c 3 t (ix2 z j) = V m c main_v3 (ix2 z J) := by
  obtain ⟨a0, b0, a1, b1, a2, b2, a3, b3, a4, b4, a5, b5⟩ := idx_facts t
  show V m c main_v3 (((cfg0.win 3).blk t).view.emb _) = V m c main_v3 _
  congr 1
  funext a; apply Fin.ext
  match a with
  | ⟨0, _⟩ => show win0_3.index t (0 : Fin 2) * 1 + 1 * z.val = z.val; omega
  | ⟨1, _⟩ => show win0_3.index t (1 : Fin 2) * 512 + 1 * j.val = J.val; omega

/-- The residual's block at point `t`: its columns from `512·t`. -/
theorem iblk4_apply (c : Dev nD) (t : Fin cfg0.N) (r : Fin 640) (j : Fin 512) (J : Fin 4096) (hJ : J.val = 512 * t.val + j.val) :
    iblk m c 4 t (ix2 r j) = m ((c : Thread nD τ).loc main_arg4) (ix2 r J) := by
  obtain ⟨a0, b0, a1, b1, a2, b2, a3, b3, a4, b4, a5, b5⟩ := idx_facts t
  rw [← V_main_arg4 m c]
  show V m c main_arg4 (((cfg0.win 4).blk t).view.emb _) = V m c main_arg4 _
  congr 1
  funext a; apply Fin.ext
  match a with
  | ⟨0, _⟩ => show win0_4.index t (0 : Fin 2) * 640 + 1 * r.val = r.val; omega
  | ⟨1, _⟩ => show win0_4.index t (1 : Fin 2) * 512 + 1 * j.val = J.val; omega

/-- The gains' block is the whole array. -/
theorem iblk5_apply (c : Dev nD) (t : Fin cfg0.N) (z : Fin 1) (j : Fin 4096) :
    iblk m c 5 t (ix2 z j) = V m c main_v4 (ix2 z j) := by
  obtain ⟨a0, b0, a1, b1, a2, b2, a3, b3, a4, b4, a5, b5⟩ := idx_facts t
  show V m c main_v4 (((cfg0.win 5).blk t).view.emb _) = V m c main_v4 _
  congr 1
  funext a; apply Fin.ext
  match a with
  | ⟨0, _⟩ => show win0_5.index t (0 : Fin 2) * 1 + 1 * z.val = z.val; omega
  | ⟨1, _⟩ => show win0_5.index t (1 : Fin 2) * 4096 + 1 * j.val = j.val; omega

/-- The scale rows as the region finds them: each row's scale, repeated along the row. -/
theorem V_rows (c : Dev nD) : V m c main_v1 = broadcastInDim S640x128 ![0, 1] bcast_S640x1_S640x128_0_1 (shapeCast S640x1 (m ((c : Thread nD τ).loc main_arg1)) shapeCasts_S20x32_S640x1) := by
  unfold_abbrev_sides
  after_results
  rfl

/-- The weights as the region finds them: the heads' rows in one run. -/
theorem V_weights (c : Dev nD) : V m c main_v2 = shapeCast S2048x4096 (m ((c : Thread nD τ).loc main_arg2)) shapeCasts_S16x128x4096_S2048x4096 := by
  unfold_abbrev_sides
  after_results
  rfl

/-- The column scales as the region finds them: one row. -/
theorem V_cols (c : Dev nD) : V m c main_v3 = shapeCast S1x4096 (m ((c : Thread nD τ).loc main_arg3)) shapeCasts_S4096_S1x4096 := by
  unfold_abbrev_sides
  after_results
  rfl

/-- The gains as the region finds them: one row. -/
theorem V_gains (c : Dev nD) : V m c main_v4 = shapeCast S1x4096 (m ((c : Thread nD τ).loc main_arg5)) shapeCasts_S4096_S1x4096 := by
  unfold_abbrev_sides
  after_results
  rfl

/-- A 20×32 table of row scales, as one column repeated along the rows, read at row `r`. -/
theorem rows_apply (x : Vec F S20x32 .f32) (r : Fin 640) (l : Fin 128) :
    broadcastInDim S640x128 ![0, 1] bcast_S640x1_S640x128_0_1 (shapeCast S640x1 x shapeCasts_S20x32_S640x1) (ix2 r l)
      = x (ix2 (⟨r.val / 32, by omega⟩ : Fin 20) (⟨r.val % 32, by omega⟩ : Fin 32)) := by
  pointwise

/-- The heads' rows in one run, read at an entry. -/
theorem weights_apply (x : Vec F S16x128x4096 .i8) (k : Fin 2048) (j : Fin 4096) :
    shapeCast S2048x4096 x shapeCasts_S16x128x4096_S2048x4096 (ix2 k j) = x (ix3 (⟨k.val / 128, by omega⟩ : Fin 16) (⟨k.val % 128, by omega⟩ : Fin 128) j) := by
  pointwise

/-- A vector as one row, read at an entry. -/
theorem row_apply (x : Vec F S4096 .f32) (j : Fin 4096) : shapeCast S1x4096 x shapeCasts_S4096_S1x4096 (ix2 (0 : Fin 1) j) = x (ix1 j) := by
  pointwise

/-- The codes as the scratch keeps them, converted. -/
theorem xb_apply (c : Dev nD) (r : Fin 640) (k : Fin 2048) :
    xb m c (ix2 r k) = FloatOps.sitofp .bf16 (m ((c : Thread nD τ).loc main_arg0) (ix2 r k)) := by
  have e : ∀ v : Vec F S640x2048 .i8, k0_pay1 v (ix2 r k) = FloatOps.sitofp .bf16 (v (ix2 r k)) := fun v => by
    unfold k0_pay1
    pointwise
  unfold xb
  rw [e, iblk0_apply]

end Reads

section AtIdeal

variable (mi : (ℓ : Loc nD τ sig) → Buf (Elt Ideal) ℓ)

/-- The reference's sums, at the kernel's arguments. -/
abbrev wholeH (c : Dev nD) : FVec Ideal OProjRefIdeal.S640x4096 .f32 :=
  OProjRefIdeal.Gen.k0_pay3 (F := Ideal) (mi ((c : Thread nD τ).loc main_arg0)) (mi ((c : Thread nD τ).loc main_arg1))
    (mi ((c : Thread nD τ).loc main_arg2)) (mi ((c : Thread nD τ).loc main_arg3)) (mi ((c : Thread nD τ).loc main_arg4))

/-- The reference's normalised array, at the kernel's arguments. -/
abbrev wholeN (c : Dev nD) : FVec Ideal OProjRefIdeal.S640x4096 .f32 :=
  wholeNorm (wholeH mi c) (wholeSq (wholeH mi c)) (mi ((c : Thread nD τ).loc main_arg5))

/-- Each block of columns of the sums is that block of columns of the whole. -/
theorem hfull_apply (c : Dev nD) (r : Fin 640) (J : Fin 4096) : hfull mi c (ix2 r J) = wholeH mi c (ix2 r J) := by
  have hN : cfg0.N = 8 := N_0
  have hlt : J.val / 512 < cfg0.N := by have := J.isLt; omega
  have hJ : J.val = 512 * (J.val / 512) + J.val % 512 := (Nat.div_add_mod _ _).symm
  have hx : (fun k => xb mi c (ix2 r k)) = fun k => FloatOps.sitofp (F := Ideal) .bf16 (mi ((c : Thread nD τ).loc main_arg0) (ix2 r k)) :=
    funext fun k => xb_apply mi c r k
  have hw : ∀ k : Fin 2048, iblk mi c 2 ⟨J.val / 512, hlt⟩ (ix2 k (⟨J.val % 512, Nat.mod_lt _ (by decide)⟩ : Fin 512))
      = mi ((c : Thread nD τ).loc main_arg2) (ix3 (⟨k.val / 128, by omega⟩ : Fin 16) (⟨k.val % 128, by omega⟩ : Fin 128) J) := fun k => by
    rw [iblk2_apply mi c ⟨J.val / 512, hlt⟩ k _ J hJ, V_weights]
    exact weights_apply _ k J
  have hs : iblk mi c 1 ⟨J.val / 512, hlt⟩ (ix2 r (0 : Fin 128))
      = mi ((c : Thread nD τ).loc main_arg1) (ix2 (⟨r.val / 32, by omega⟩ : Fin 20) (⟨r.val % 32, by omega⟩ : Fin 32)) := by
    rw [iblk1_apply, V_rows]
    exact rows_apply _ r 0
  have ht : iblk mi c 3 ⟨J.val / 512, hlt⟩ (ix2 (0 : Fin 1) (⟨J.val % 512, Nat.mod_lt _ (by decide)⟩ : Fin 512))
      = mi ((c : Thread nD τ).loc main_arg3) (ix1 J) := by
    rw [iblk3_apply mi c ⟨J.val / 512, hlt⟩ 0 _ J hJ, V_cols]
    exact row_apply _ J
  have hr : iblk mi c 4 ⟨J.val / 512, hlt⟩ (ix2 r (⟨J.val % 512, Nat.mod_lt _ (by decide)⟩ : Fin 512))
      = mi ((c : Thread nD τ).loc main_arg4) (ix2 r J) := iblk4_apply mi c ⟨J.val / 512, hlt⟩ r _ J hJ
  refine Eq.trans ?_ (whole_apply _ _ _ _ _ r J).symm
  refine (added_apply _ _ _ _ _ r _).trans ?_
  exact congr (congr (congr (congrArg₂ addProj hx (funext fun k => congrArg _ (hw k))) hs) ht) hr

/-- The gains as the loop reads them. -/
theorem gains_apply (c : Dev nD) (t : Fin cfg0.N) (j : Fin 4096) : iblk mi c 5 t (ix2 (0 : Fin 1) j) = mi ((c : Thread nD τ).loc main_arg5) (ix1 j) := by
  rw [iblk5_apply mi c t 0 j, V_gains]
  exact row_apply _ j

/-- A row of the block of 32 rows that a trip reads is that row of the whole. -/
theorem rowsOf_apply (c : Dev nD) (i : Fin 20) (a : Fin 32) (R : Fin 640) (hR : R.val = 32 * i.val + a.val) (j : Fin 4096) :
    rowsOf (hfull mi c) i (ix2 a j) = wholeH mi c (ix2 R j) := by
  rw [← hfull_apply mi c R j]
  exact congrArg (fun q : Fin 640 => hfull mi c (ix2 q j)) (Fin.ext hR.symm)

/-- A trip's normalised row is the reference's. -/
theorem norm_eq (c : Dev nD) (i : Fin 20) (a : Fin 32) (R : Fin 640) (hR : R.val = 32 * i.val + a.val) (j : Fin 4096) :
    k0_pay5 (rowsOf (hfull mi c) i) (iblk mi c 5 t0_7) (ix2 a j) = wholeN mi c (ix2 R j) := by
  rw [pay5_normed]
  refine Eq.trans ?_ (wholeNorm_apply _ _ R j).symm
  exact congr (congrArg₂ normed (funext fun k => rowsOf_apply mi c i a R hR k) (rowsOf_apply mi c i a R hR j)) (gains_apply mi c t0_7 j)

/-- A trip's scale of a row is the reference's scale of that row. -/
theorem scale_eq (c : Dev nD) (i : Fin 20) (a : Fin 32) (R : Fin 640) (hR : R.val = 32 * i.val + a.val) :
    k0_pay6 (rowsOf (hfull mi c) i) (iblk mi c 5 t0_7) (ix2 a (0 : Fin 1)) = wholeScale (wholeN mi c) (ix1 R) := by
  rw [pay6_apply, wholeScale_apply]
  exact congrArg rowScale (funext fun j => norm_eq mi c i a R hR j)

/-- **The sums are the reference's.** -/
theorem sums_result (c : Dev nD) : hfull mi c = OProjRefIdeal.Value.G6 (F := Ideal) (mi ((c : Thread nD τ).loc main_arg0)) (mi ((c : Thread nD τ).loc main_arg1))
    (mi ((c : Thread nD τ).loc main_arg2)) (mi ((c : Thread nD τ).loc main_arg3)) (mi ((c : Thread nD τ).loc main_arg4)) (mi ((c : Thread nD τ).loc main_arg5)) := by
  funext i
  obtain ⟨r, J, rfl⟩ : ∃ (r : Fin 640) (J : Fin 4096), i = ix2 r J := ⟨i 0, i 1, eq_ix2 i⟩
  exact hfull_apply mi c r J

/-- **The codes are the reference's**: dividing a row by its scale is multiplying it by the scale's inverse. -/
theorem codes_result (c : Dev nD) : codesOf (hfull mi c) (iblk mi c 5 t0_7) = OProjRefIdeal.Value.G7 (F := Ideal) (mi ((c : Thread nD τ).loc main_arg0)) (mi ((c : Thread nD τ).loc main_arg1))
    (mi ((c : Thread nD τ).loc main_arg2)) (mi ((c : Thread nD τ).loc main_arg3)) (mi ((c : Thread nD τ).loc main_arg4)) (mi ((c : Thread nD τ).loc main_arg5)) := by
  funext i
  obtain ⟨r, J, rfl⟩ : ∃ (r : Fin 640) (J : Fin 4096), i = ix2 r J := ⟨i 0, i 1, eq_ix2 i⟩
  have hR : r.val = 32 * (r.val / 32) + r.val % 32 := (Nat.div_add_mod _ _).symm
  have hq : r.val / 32 < 20 := by have := r.isLt; omega
  have ha : r.val % 32 < 32 := Nat.mod_lt _ (by decide)
  show k0_pay7 (rowsOf (hfull mi c) (⟨r.val / 32, hq⟩ : Fin 20)) (iblk mi c 5 t0_7) (ix2 (⟨r.val % 32, ha⟩ : Fin 32) J) = _
  refine (pay7_apply _ _ _ _).trans ?_
  refine Eq.trans ?_ (congrFun (codes_eq _ _ _ _ _ _) (ix2 r J)).symm
  rw [wholeCodes_apply, pay5_eq, pay4_eq, scale_eq mi c ⟨r.val / 32, hq⟩ ⟨r.val % 32, ha⟩ r hR,
    mul_inv _ _ (by rw [wholeScale_apply]; exact rowScale_ne _), norm_eq mi c ⟨r.val / 32, hq⟩ ⟨r.val % 32, ha⟩ r hR J]

/-- **The scales are the reference's.** -/
theorem scales_result (c : Dev nD) : scalesOf (hfull mi c) (iblk mi c 5 t0_7) = OProjRefIdeal.Value.G8 (F := Ideal) (mi ((c : Thread nD τ).loc main_arg0)) (mi ((c : Thread nD τ).loc main_arg1))
    (mi ((c : Thread nD τ).loc main_arg2)) (mi ((c : Thread nD τ).loc main_arg3)) (mi ((c : Thread nD τ).loc main_arg4)) (mi ((c : Thread nD τ).loc main_arg5)) := by
  funext y
  obtain ⟨i, j, rfl⟩ : ∃ (i : Fin 20) (j : Fin 32), y = ix2 i j := ⟨y 0, y 1, eq_ix2 y⟩
  refine (diag_apply _ j).trans ?_
  refine Eq.trans ?_ (refScales_apply _ i j).symm
  rw [pay5_eq, pay4_eq]
  exact scale_eq mi c i j _ rfl

end AtIdeal

end Cert.OProjIdeal.Hand

namespace Cert.Proof

/-- **The output projection's kernel and reference end with the same sums, codes and scales**, at the extended reals. -/
theorem algebraic_oproj : Cert.algebraic_OProjIdeal_OProjRefIdeal := by
  intro m ρ m' ρ' _ hagree
  refine ⟨fun c => Cert.OProjIdeal.Hand.hfull m c,
    fun c => Cert.OProjIdeal.Hand.codesOf (Cert.OProjIdeal.Hand.hfull m c) (Cert.OProjIdeal.Gen.iblk m c 5 Cert.OProjIdeal.Gen.t0_7),
    fun c => Cert.OProjIdeal.Hand.scalesOf (Cert.OProjIdeal.Hand.hfull m c) (Cert.OProjIdeal.Gen.iblk m c 5 Cert.OProjIdeal.Gen.t0_7), ?_, ?_⟩
  · refine (θ_run Cert.OProjIdeal.defs _ _).mono (fun r h c => ?_) (Cert.OProjIdeal.Hand.run_main_quiescent (F := Ideal) m ρ)
    obtain ⟨h6, h7, h8⟩ := Cert.OProjIdeal.Hand.results m r h.1 c
    exact ⟨h6, h7, h8, Cert.OProjIdeal.Hand.args_kept m r h.1 c⟩
  · refine (θ_run Cert.OProjRefIdeal.defs _ _).mono (fun _ h c => ?_) (Cert.OProjRefIdeal.Value.run (F := Ideal) m' ρ')
    obtain ⟨h0, h1, h2, h3, h4, h5⟩ := hagree c
    refine ⟨(h c).1.trans ?_, (h c).2.1.trans ?_, (h c).2.2.1.trans ?_, (h c).2.2.2⟩
    · refine Eq.trans ?_ (Cert.OProjIdeal.Hand.sums_result m c).symm
      exact congr (congr (congr (congr (congr (congrArg _ h0) h1) h2) h3) h4) h5
    · refine Eq.trans ?_ (Cert.OProjIdeal.Hand.codes_result m c).symm
      exact congr (congr (congr (congr (congr (congrArg _ h0) h1) h2) h3) h4) h5
    · refine Eq.trans ?_ (Cert.OProjIdeal.Hand.scales_result m c).symm
      exact congr (congr (congr (congr (congr (congrArg _ h0) h1) h2) h3) h4) h5

section Kit

variable {F : FTy → Type} [FloatOps F]

/-- The machine's program runs the same bodies as the idealized one. -/
theorem oproj_bodies : (Cert.OProj.defs₀ (F := F)) = Cert.OProjIdeal.defs₀ (F := F) := by
  unfold Cert.OProj.defs₀ Cert.OProjIdeal.defs₀
  refine congrArg Defs.onTc (funext fun l => funext fun a => ?_)
  match l, a with
  | ⟨0, _⟩, (t, s) => rfl

theorem oproj_defs : (Cert.OProj.defs (F := F)) = Cert.OProjIdeal.defs (F := F) :=
  congrArg (Pipeline.defs (Cert.OProj.pcfgs (F := F))) oproj_bodies

end Kit

/-- **Every run of the machine's program ends with its arguments unchanged and nothing in flight.** -/
theorem frame_oproj : Cert.quiescent_OProj := fun m ρ _ => by
  rw [oproj_defs]
  exact Cert.OProjIdeal.Hand.frame (F := Bits) m ρ

end Cert.Proof

end
-- ==== Proof.lean ====
module

public import proofs.«01_k».proof.Defs
public import proofs.«01_k».proof.Proof.Gen.Down
public import proofs.«01_k».proof.Proof.Gen.Down.Frame
public import proofs.«01_k».proof.Proof.Gen.GateUp
public import proofs.«01_k».proof.Proof.Gen.GateUp.Frame
public import proofs.«01_k».proof.Proof.Gen.GateUpIdeal.Loops
public import proofs.«01_k».proof.Proof.Gen.GateUpRefIdeal.Value
public import proofs.«01_k».proof.Proof.Gen.OProj
public import proofs.«01_k».proof.Proof.Gen.OProj.Frame
public import proofs.«01_k».proof.Proof.Gen.OProjIdeal.Frame
public import proofs.«01_k».proof.Proof.Gen.OProjIdeal.Loops
public import proofs.«01_k».proof.Proof.Gen.OProjRefIdeal.Value
public import proofs.«01_k».proof.Proof.DownValue
public import proofs.«01_k».proof.Proof.GateUpResult
public import proofs.«01_k».proof.Proof.OProjResult
public import Idealize.ShloMosaic.Adequacy
public import Idealize.ShloMosaic.Init

@[expose] public section

noncomputable section

namespace Cert.Proof

open Idealize.ShloMosaic Idealize.SL.Sem

/-- **Everything claimed**: the three calls run with their arguments unchanged, and end with their references' results. -/
theorem claim : Cert.Claim := ⟨Cert.OProj.Gen.facts, Cert.OProjIdeal.Gen.facts, Cert.OProjRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    frame_oproj, fun m ρ _ => Cert.OProjIdeal.Hand.frame m ρ, fun m ρ _ => Cert.OProjRefIdeal.Gen.frame m ρ,
    frame_gateup, fun m ρ _ => Cert.GateUpIdeal.Hand.frame m ρ, fun m ρ _ => Cert.GateUpRefIdeal.Gen.frame m ρ,
    fun m ρ _ => Cert.Down.Gen.frame m ρ, fun m ρ _ => Cert.DownIdeal.Gen.frame m ρ, fun m ρ _ => Cert.DownRefIdeal.Gen.frame m ρ,
    trivial, algebraic_oproj, trivial, algebraic_gateup, trivial, algebraic_down⟩

end Cert.Proof

end
